-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradReferenceIdeal (m : (ℓ : Loc Cert.GateGradReferenceIdeal.nD Cert.GateGradReferenceIdeal.τ Cert.GateGradReferenceIdeal.sig) → Buf (Elt Ideal) ℓ) : Prop :=
  True

def Pre_ProjGrad (m : (ℓ : Loc Cert.ProjGrad.nD Cert.ProjGrad.τ Cert.ProjGrad.sig) → Buf (Elt Bits) ℓ) : Prop :=
  True

def Pre_ProjGradIdeal (m : (ℓ : Loc Cert.ProjGradIdeal.nD Cert.ProjGradIdeal.τ Cert.ProjGradIdeal.sig) → Buf (Elt Ideal) ℓ) : Prop :=
  True

def Pre_ProjGradReferenceIdeal (m : (ℓ : Loc Cert.ProjGradReferenceIdeal.nD Cert.ProjGradReferenceIdeal.τ Cert.ProjGradReferenceIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutReferenceIdeal (m : (ℓ : Loc Cert.FwdOutReferenceIdeal.nD Cert.FwdOutReferenceIdeal.τ Cert.FwdOutReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1)
      ∧ r.2.mem ((c.tc : Thread Cert.GradInReferenceIdeal.nD Cert.GradInReferenceIdeal.τ).loc Cert.GradInReferenceIdeal.main_arg2) = m ((c.tc : Thread Cert.GradInReferenceIdeal.nD Cert.GradInReferenceIdeal.τ).loc Cert.GradInReferenceIdeal.main_arg2))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1)
      ∧ r.2.mem ((c.tc : Thread Cert.GradOutReferenceIdeal.nD Cert.GradOutReferenceIdeal.τ).loc Cert.GradOutReferenceIdeal.main_arg2) = m ((c.tc : Thread Cert.GradOutReferenceIdeal.nD Cert.GradOutReferenceIdeal.τ).loc Cert.GradOutReferenceIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1)
      ∧ r.2.mem ((c.tc : Thread Cert.GateGradReferenceIdeal.nD Cert.GateGradReferenceIdeal.τ).loc Cert.GateGradReferenceIdeal.main_arg2) = m ((c.tc : Thread Cert.GateGradReferenceIdeal.nD Cert.GateGradReferenceIdeal.τ).loc Cert.GateGradReferenceIdeal.main_arg2))
      ∧ r.2.sem = fun _ => 0)

def quiescent_ProjGrad [hProjGrad : Cert.ProjGrad.Facts] : Prop :=
  ∀ (m : (ℓ : Loc Cert.ProjGrad.nD Cert.ProjGrad.τ Cert.ProjGrad.sig) → Buf (Elt Bits) ℓ) (g : Dev Cert.ProjGrad.nD → PrngReg), Pre_ProjGrad m →
    θ_run (Cert.ProjGrad.defs (F := Bits)) (onTc (τ := Cert.ProjGrad.τ) (Cert.ProjGrad.main (F := Bits))) ⟨m, fun _ => 0, g⟩ (fun r => (∀ c : Dev Cert.ProjGrad.nD,
      r.2.mem ((c.tc : Thread Cert.ProjGrad.nD Cert.ProjGrad.τ).loc Cert.ProjGrad.main_arg0) = m ((c.tc : Thread Cert.ProjGrad.nD Cert.ProjGrad.τ).loc Cert.ProjGrad.main_arg0)
      ∧ r.2.mem ((c.tc : Thread Cert.ProjGrad.nD Cert.ProjGrad.τ).loc Cert.ProjGrad.main_arg1) = m ((c.tc : Thread Cert.ProjGrad.nD Cert.ProjGrad.τ).loc Cert.ProjGrad.main_arg1)
      ∧ r.2.mem ((c.tc : Thread Cert.ProjGrad.nD Cert.ProjGrad.τ).loc Cert.ProjGrad.main_arg2) = m ((c.tc : Thread Cert.ProjGrad.nD Cert.ProjGrad.τ).loc Cert.ProjGrad.main_arg2))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2))
      ∧ r.2.sem = fun _ => 0)

def quiescent_ProjGradReferenceIdeal [hProjGradReferenceIdeal : Cert.ProjGradReferenceIdeal.Facts] : Prop :=
  ∀ (m : (ℓ : Loc Cert.ProjGradReferenceIdeal.nD Cert.ProjGradReferenceIdeal.τ Cert.ProjGradReferenceIdeal.sig) → Buf (Elt Ideal) ℓ) (g : Dev Cert.ProjGradReferenceIdeal.nD → PrngReg), Pre_ProjGradReferenceIdeal m →
    θ_run (Cert.ProjGradReferenceIdeal.defs (F := Ideal)) (onTc (τ := Cert.ProjGradReferenceIdeal.τ) (Cert.ProjGradReferenceIdeal.main (F := Ideal))) ⟨m, fun _ => 0, g⟩ (fun r => (∀ c : Dev Cert.ProjGradReferenceIdeal.nD,
      r.2.mem ((c.tc : Thread Cert.ProjGradReferenceIdeal.nD Cert.ProjGradReferenceIdeal.τ).loc Cert.ProjGradReferenceIdeal.main_arg0) = m ((c.tc : Thread Cert.ProjGradReferenceIdeal.nD Cert.ProjGradReferenceIdeal.τ).loc Cert.ProjGradReferenceIdeal.main_arg0)
      ∧ r.2.mem ((c.tc : Thread Cert.ProjGradReferenceIdeal.nD Cert.ProjGradReferenceIdeal.τ).loc Cert.ProjGradReferenceIdeal.main_arg1) = m ((c.tc : Thread Cert.ProjGradReferenceIdeal.nD Cert.ProjGradReferenceIdeal.τ).loc Cert.ProjGradReferenceIdeal.main_arg1)
      ∧ r.2.mem ((c.tc : Thread Cert.ProjGradReferenceIdeal.nD Cert.ProjGradReferenceIdeal.τ).loc Cert.ProjGradReferenceIdeal.main_arg2) = m ((c.tc : Thread Cert.ProjGradReferenceIdeal.nD Cert.ProjGradReferenceIdeal.τ).loc Cert.ProjGradReferenceIdeal.main_arg2))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2)
      ∧ r.2.mem ((c.tc : Thread Cert.FwdOut.nD Cert.FwdOut.τ).loc Cert.FwdOut.main_arg3) = m ((c.tc : Thread Cert.FwdOut.nD Cert.FwdOut.τ).loc Cert.FwdOut.main_arg3))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
      ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3))
      ∧ r.2.sem = fun _ => 0)

def quiescent_FwdOutReferenceIdeal [hFwdOutReferenceIdeal : Cert.FwdOutReferenceIdeal.Facts] : Prop :=
  ∀ (m : (ℓ : Loc Cert.FwdOutReferenceIdeal.nD Cert.FwdOutReferenceIdeal.τ Cert.FwdOutReferenceIdeal.sig) → Buf (Elt Ideal) ℓ) (g : Dev Cert.FwdOutReferenceIdeal.nD → PrngReg), Pre_FwdOutReferenceIdeal m →
    θ_run (Cert.FwdOutReferenceIdeal.defs (F := Ideal)) (onTc (τ := Cert.FwdOutReferenceIdeal.τ) (Cert.FwdOutReferenceIdeal.main (F := Ideal))) ⟨m, fun _ => 0, g⟩ (fun r => (∀ c : Dev Cert.FwdOutReferenceIdeal.nD,
      r.2.mem ((c.tc : Thread Cert.FwdOutReferenceIdeal.nD Cert.FwdOutReferenceIdeal.τ).loc Cert.FwdOutReferenceIdeal.main_arg0) = m ((c.tc : Thread Cert.FwdOutReferenceIdeal.nD Cert.FwdOutReferenceIdeal.τ).loc Cert.FwdOutReferenceIdeal.main_arg0)
      ∧ r.2.mem ((c.tc : Thread Cert.FwdOutReferenceIdeal.nD Cert.FwdOutReferenceIdeal.τ).loc Cert.FwdOutReferenceIdeal.main_arg1) = m ((c.tc : Thread Cert.FwdOutReferenceIdeal.nD Cert.FwdOutReferenceIdeal.τ).loc Cert.FwdOutReferenceIdeal.main_arg1)
      ∧ r.2.mem ((c.tc : Thread Cert.FwdOutReferenceIdeal.nD Cert.FwdOutReferenceIdeal.τ).loc Cert.FwdOutReferenceIdeal.main_arg2) = m ((c.tc : Thread Cert.FwdOutReferenceIdeal.nD Cert.FwdOutReferenceIdeal.τ).loc Cert.FwdOutReferenceIdeal.main_arg2)
      ∧ r.2.mem ((c.tc : Thread Cert.FwdOutReferenceIdeal.nD Cert.FwdOutReferenceIdeal.τ).loc Cert.FwdOutReferenceIdeal.main_arg3) = m ((c.tc : Thread Cert.FwdOutReferenceIdeal.nD Cert.FwdOutReferenceIdeal.τ).loc Cert.FwdOutReferenceIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5)
      ∧ r.2.mem ((c.tc : Thread Cert.PleReferenceIdeal.nD Cert.PleReferenceIdeal.τ).loc Cert.PleReferenceIdeal.main_arg6) = m ((c.tc : Thread Cert.PleReferenceIdeal.nD Cert.PleReferenceIdeal.τ).loc Cert.PleReferenceIdeal.main_arg6)
      ∧ r.2.mem ((c.tc : Thread Cert.PleReferenceIdeal.nD Cert.PleReferenceIdeal.τ).loc Cert.PleReferenceIdeal.main_arg7) = m ((c.tc : Thread Cert.PleReferenceIdeal.nD Cert.PleReferenceIdeal.τ).loc Cert.PleReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v88_3)) (v1 : (c : Dev Cert.KernelIdeal.nD) → Buf (Elt Ideal) ((c.tc : Thread Cert.KernelIdeal.nD Cert.KernelIdeal.τ).loc Cert.KernelIdeal.main_v88_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_3) = v0 c
          ∧ r.2.mem ((c.tc : Thread Cert.KernelIdeal.nD Cert.KernelIdeal.τ).loc Cert.KernelIdeal.main_v88_4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)
      ∧ m' ((c.tc : Thread Cert.GradInReferenceIdeal.nD Cert.GradInReferenceIdeal.τ).loc Cert.GradInReferenceIdeal.main_arg2) = m ((c.tc : Thread Cert.GradInIdeal.nD Cert.GradInIdeal.τ).loc Cert.GradInIdeal.main_arg2)) →
    ∃ (v0 : (c : Dev Cert.GradInIdeal.nD) → Buf (Elt Ideal) ((c.tc : Thread Cert.GradInIdeal.nD Cert.GradInIdeal.τ).loc Cert.GradInIdeal.main_v3)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v3) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v5) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1)
          ∧ r.2.mem ((c.tc : Thread Cert.GradInReferenceIdeal.nD Cert.GradInReferenceIdeal.τ).loc Cert.GradInReferenceIdeal.main_arg2) = m' ((c.tc : Thread Cert.GradInReferenceIdeal.nD Cert.GradInReferenceIdeal.τ).loc Cert.GradInReferenceIdeal.main_arg2))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)
      ∧ m' ((c.tc : Thread Cert.GradOutReferenceIdeal.nD Cert.GradOutReferenceIdeal.τ).loc Cert.GradOutReferenceIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v3)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v3) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v3) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1)
          ∧ r.2.mem ((c.tc : Thread Cert.GradOutReferenceIdeal.nD Cert.GradOutReferenceIdeal.τ).loc Cert.GradOutReferenceIdeal.main_arg2) = m' ((c.tc : Thread Cert.GradOutReferenceIdeal.nD Cert.GradOutReferenceIdeal.τ).loc Cert.GradOutReferenceIdeal.main_arg2))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v3) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v1) = v0 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2))

def preserves_GateGrad_GateGradIdeal : Prop :=
  True

def algebraic_GateGradIdeal_GateGradReferenceIdeal [hGateGradIdeal : Cert.GateGradIdeal.Facts] [hGateGradReferenceIdeal : Cert.GateGradReferenceIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)
      ∧ m' ((c.tc : Thread Cert.GateGradReferenceIdeal.nD Cert.GateGradReferenceIdeal.τ).loc Cert.GateGradReferenceIdeal.main_arg2) = m ((c.tc : Thread Cert.GateGradIdeal.nD Cert.GateGradIdeal.τ).loc Cert.GateGradIdeal.main_arg2)) →
    ∃ (v0 : (c : Dev Cert.GateGradIdeal.nD) → Buf (Elt Ideal) ((c.tc : Thread Cert.GateGradIdeal.nD Cert.GateGradIdeal.τ).loc Cert.GateGradIdeal.main_v3)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v3) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v3) = v0 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1)
          ∧ r.2.mem ((c.tc : Thread Cert.GateGradReferenceIdeal.nD Cert.GateGradReferenceIdeal.τ).loc Cert.GateGradReferenceIdeal.main_arg2) = m' ((c.tc : Thread Cert.GateGradReferenceIdeal.nD Cert.GateGradReferenceIdeal.τ).loc Cert.GateGradReferenceIdeal.main_arg2))

def preserves_ProjGrad_ProjGradIdeal : Prop :=
  True

def algebraic_ProjGradIdeal_ProjGradReferenceIdeal [hProjGradIdeal : Cert.ProjGradIdeal.Facts] [hProjGradReferenceIdeal : Cert.ProjGradReferenceIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg)
    (m' : (ℓ : Loc Cert.ProjGradReferenceIdeal.nD Cert.ProjGradReferenceIdeal.τ Cert.ProjGradReferenceIdeal.sig) → Buf (Elt Ideal) ℓ) (g' : Dev Cert.ProjGradReferenceIdeal.nD → PrngReg), Pre_ProjGradIdeal m →
    (∀ c : Dev Cert.ProjGradIdeal.nD,
      m' ((c.tc : Thread Cert.ProjGradReferenceIdeal.nD Cert.ProjGradReferenceIdeal.τ).loc Cert.ProjGradReferenceIdeal.main_arg0) = m ((c.tc : Thread Cert.ProjGradIdeal.nD Cert.ProjGradIdeal.τ).loc Cert.ProjGradIdeal.main_arg0)
      ∧ m' ((c.tc : Thread Cert.ProjGradReferenceIdeal.nD Cert.ProjGradReferenceIdeal.τ).loc Cert.ProjGradReferenceIdeal.main_arg1) = m ((c.tc : Thread Cert.ProjGradIdeal.nD Cert.ProjGradIdeal.τ).loc Cert.ProjGradIdeal.main_arg1)
      ∧ m' ((c.tc : Thread Cert.ProjGradReferenceIdeal.nD Cert.ProjGradReferenceIdeal.τ).loc Cert.ProjGradReferenceIdeal.main_arg2) = m ((c.tc : Thread Cert.ProjGradIdeal.nD Cert.ProjGradIdeal.τ).loc Cert.ProjGradIdeal.main_arg2)) →
    ∃ (v0 : (c : Dev Cert.ProjGradIdeal.nD) → Buf (Elt Ideal) ((c.tc : Thread Cert.ProjGradIdeal.nD Cert.ProjGradIdeal.τ).loc Cert.ProjGradIdeal.main_v3)),
      θ_run (Cert.ProjGradIdeal.defs (F := Ideal)) (onTc (τ := Cert.ProjGradIdeal.τ) (Cert.ProjGradIdeal.main (F := Ideal))) ⟨m, fun _ => 0, g⟩ (fun r => ∀ c : Dev Cert.ProjGradIdeal.nD,
          r.2.mem ((c.tc : Thread Cert.ProjGradIdeal.nD Cert.ProjGradIdeal.τ).loc Cert.ProjGradIdeal.main_v3) = v0 c
          ∧ r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
          ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2))
      ∧ θ_run (Cert.ProjGradReferenceIdeal.defs (F := Ideal)) (onTc (τ := Cert.ProjGradReferenceIdeal.τ) (Cert.ProjGradReferenceIdeal.main (F := Ideal))) ⟨m', fun _ => 0, g'⟩ (fun r => ∀ c : Dev Cert.ProjGradReferenceIdeal.nD,
          r.2.mem ((c.tc : Thread Cert.ProjGradReferenceIdeal.nD Cert.ProjGradReferenceIdeal.τ).loc Cert.ProjGradReferenceIdeal.main_v3) = v0 c
          ∧ r.2.mem ((c.tc : Thread Cert.ProjGradReferenceIdeal.nD Cert.ProjGradReferenceIdeal.τ).loc Cert.ProjGradReferenceIdeal.main_arg0) = m' ((c.tc : Thread Cert.ProjGradReferenceIdeal.nD Cert.ProjGradReferenceIdeal.τ).loc Cert.ProjGradReferenceIdeal.main_arg0)
          ∧ r.2.mem ((c.tc : Thread Cert.ProjGradReferenceIdeal.nD Cert.ProjGradReferenceIdeal.τ).loc Cert.ProjGradReferenceIdeal.main_arg1) = m' ((c.tc : Thread Cert.ProjGradReferenceIdeal.nD Cert.ProjGradReferenceIdeal.τ).loc Cert.ProjGradReferenceIdeal.main_arg1)
          ∧ r.2.mem ((c.tc : Thread Cert.ProjGradReferenceIdeal.nD Cert.ProjGradReferenceIdeal.τ).loc Cert.ProjGradReferenceIdeal.main_arg2) = m' ((c.tc : Thread Cert.ProjGradReferenceIdeal.nD Cert.ProjGradReferenceIdeal.τ).loc Cert.ProjGradReferenceIdeal.main_arg2))

def preserves_FwdOut_FwdOutIdeal : Prop :=
  True

def algebraic_FwdOutIdeal_FwdOutReferenceIdeal [hFwdOutIdeal : Cert.FwdOutIdeal.Facts] [hFwdOutReferenceIdeal : Cert.FwdOutReferenceIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutReferenceIdeal.nD Cert.FwdOutReferenceIdeal.τ Cert.FwdOutReferenceIdeal.sig) → Buf (Elt Ideal) ℓ) (g' : Dev Cert.FwdOutReferenceIdeal.nD → PrngReg), Pre_FwdOutIdeal m →
    (∀ c : Dev Cert.FwdOutIdeal.nD,
      m' ((c.tc : Thread Cert.FwdOutReferenceIdeal.nD Cert.FwdOutReferenceIdeal.τ).loc Cert.FwdOutReferenceIdeal.main_arg0) = m ((c.tc : Thread Cert.FwdOutIdeal.nD Cert.FwdOutIdeal.τ).loc Cert.FwdOutIdeal.main_arg0)
      ∧ m' ((c.tc : Thread Cert.FwdOutReferenceIdeal.nD Cert.FwdOutReferenceIdeal.τ).loc Cert.FwdOutReferenceIdeal.main_arg1) = m ((c.tc : Thread Cert.FwdOutIdeal.nD Cert.FwdOutIdeal.τ).loc Cert.FwdOutIdeal.main_arg1)
      ∧ m' ((c.tc : Thread Cert.FwdOutReferenceIdeal.nD Cert.FwdOutReferenceIdeal.τ).loc Cert.FwdOutReferenceIdeal.main_arg2) = m ((c.tc : Thread Cert.FwdOutIdeal.nD Cert.FwdOutIdeal.τ).loc Cert.FwdOutIdeal.main_arg2)
      ∧ m' ((c.tc : Thread Cert.FwdOutReferenceIdeal.nD Cert.FwdOutReferenceIdeal.τ).loc Cert.FwdOutReferenceIdeal.main_arg3) = m ((c.tc : Thread Cert.FwdOutIdeal.nD Cert.FwdOutIdeal.τ).loc Cert.FwdOutIdeal.main_arg3)) →
    ∃ (v0 : (c : Dev Cert.FwdOutIdeal.nD) → Buf (Elt Ideal) ((c.tc : Thread Cert.FwdOutIdeal.nD Cert.FwdOutIdeal.τ).loc Cert.FwdOutIdeal.main_v3_0)) (v1 : (c : Dev Cert.FwdOutIdeal.nD) → Buf (Elt Ideal) ((c.tc : Thread Cert.FwdOutIdeal.nD Cert.FwdOutIdeal.τ).loc Cert.FwdOutIdeal.main_v3_1)) (v2 : (c : Dev Cert.FwdOutIdeal.nD) → Buf (Elt Ideal) ((c.tc : Thread Cert.FwdOutIdeal.nD Cert.FwdOutIdeal.τ).loc Cert.FwdOutIdeal.main_v3_2)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v3_0) = v0 c
          ∧ r.2.mem ((c.tc : Thread Cert.FwdOutIdeal.nD Cert.FwdOutIdeal.τ).loc Cert.FwdOutIdeal.main_v3_1) = v1 c
          ∧ r.2.mem ((c.tc : Thread Cert.FwdOutIdeal.nD Cert.FwdOutIdeal.τ).loc Cert.FwdOutIdeal.main_v3_2) = v2 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
          ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3))
      ∧ θ_run (Cert.FwdOutReferenceIdeal.defs (F := Ideal)) (onTc (τ := Cert.FwdOutReferenceIdeal.τ) (Cert.FwdOutReferenceIdeal.main (F := Ideal))) ⟨m', fun _ => 0, g'⟩ (fun r => ∀ c : Dev Cert.FwdOutReferenceIdeal.nD,
          r.2.mem ((c.tc : Thread Cert.FwdOutReferenceIdeal.nD Cert.FwdOutReferenceIdeal.τ).loc Cert.FwdOutReferenceIdeal.main_v1) = v0 c
          ∧ r.2.mem ((c.tc : Thread Cert.FwdOutReferenceIdeal.nD Cert.FwdOutReferenceIdeal.τ).loc Cert.FwdOutReferenceIdeal.main_v15) = v1 c
          ∧ r.2.mem ((c.tc : Thread Cert.FwdOutReferenceIdeal.nD Cert.FwdOutReferenceIdeal.τ).loc Cert.FwdOutReferenceIdeal.main_v16) = v2 c
          ∧ r.2.mem ((c.tc : Thread Cert.FwdOutReferenceIdeal.nD Cert.FwdOutReferenceIdeal.τ).loc Cert.FwdOutReferenceIdeal.main_arg0) = m' ((c.tc : Thread Cert.FwdOutReferenceIdeal.nD Cert.FwdOutReferenceIdeal.τ).loc Cert.FwdOutReferenceIdeal.main_arg0)
          ∧ r.2.mem ((c.tc : Thread Cert.FwdOutReferenceIdeal.nD Cert.FwdOutReferenceIdeal.τ).loc Cert.FwdOutReferenceIdeal.main_arg1) = m' ((c.tc : Thread Cert.FwdOutReferenceIdeal.nD Cert.FwdOutReferenceIdeal.τ).loc Cert.FwdOutReferenceIdeal.main_arg1)
          ∧ r.2.mem ((c.tc : Thread Cert.FwdOutReferenceIdeal.nD Cert.FwdOutReferenceIdeal.τ).loc Cert.FwdOutReferenceIdeal.main_arg2) = m' ((c.tc : Thread Cert.FwdOutReferenceIdeal.nD Cert.FwdOutReferenceIdeal.τ).loc Cert.FwdOutReferenceIdeal.main_arg2)
          ∧ r.2.mem ((c.tc : Thread Cert.FwdOutReferenceIdeal.nD Cert.FwdOutReferenceIdeal.τ).loc Cert.FwdOutReferenceIdeal.main_arg3) = m' ((c.tc : Thread Cert.FwdOutReferenceIdeal.nD Cert.FwdOutReferenceIdeal.τ).loc Cert.FwdOutReferenceIdeal.main_arg3))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v3_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v3_2) = v0 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v21) = v0 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)
      ∧ m' ((c.tc : Thread Cert.PleReferenceIdeal.nD Cert.PleReferenceIdeal.τ).loc Cert.PleReferenceIdeal.main_arg6) = m ((c.tc : Thread Cert.PleIdeal.nD Cert.PleIdeal.τ).loc Cert.PleIdeal.main_arg6)
      ∧ m' ((c.tc : Thread Cert.PleReferenceIdeal.nD Cert.PleReferenceIdeal.τ).loc Cert.PleReferenceIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v5_0)) (v1 : (c : Dev Cert.PleIdeal.nD) → Buf (Elt Ideal) ((c.tc : Thread Cert.PleIdeal.nD Cert.PleIdeal.τ).loc Cert.PleIdeal.main_v5_1)) (v2 : (c : Dev Cert.PleIdeal.nD) → Buf (Elt Ideal) ((c.tc : Thread Cert.PleIdeal.nD Cert.PleIdeal.τ).loc Cert.PleIdeal.main_v5_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5_0) = v0 c
          ∧ r.2.mem ((c.tc : Thread Cert.PleIdeal.nD Cert.PleIdeal.τ).loc Cert.PleIdeal.main_v5_1) = v1 c
          ∧ r.2.mem ((c.tc : Thread Cert.PleIdeal.nD Cert.PleIdeal.τ).loc Cert.PleIdeal.main_v5_4) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v43) = v0 c
          ∧ r.2.mem ((c.tc : Thread Cert.PleReferenceIdeal.nD Cert.PleReferenceIdeal.τ).loc Cert.PleReferenceIdeal.main_v60) = v1 c
          ∧ r.2.mem ((c.tc : Thread Cert.PleReferenceIdeal.nD Cert.PleReferenceIdeal.τ).loc Cert.PleReferenceIdeal.main_v64) = v2 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5)
          ∧ r.2.mem ((c.tc : Thread Cert.PleReferenceIdeal.nD Cert.PleReferenceIdeal.τ).loc Cert.PleReferenceIdeal.main_arg6) = m' ((c.tc : Thread Cert.PleReferenceIdeal.nD Cert.PleReferenceIdeal.τ).loc Cert.PleReferenceIdeal.main_arg6)
          ∧ r.2.mem ((c.tc : Thread Cert.PleReferenceIdeal.nD Cert.PleReferenceIdeal.τ).loc Cert.PleReferenceIdeal.main_arg7) = m' ((c.tc : Thread Cert.PleReferenceIdeal.nD Cert.PleReferenceIdeal.τ).loc Cert.PleReferenceIdeal.main_arg7))

def Claim : Prop :=
  ∃ (hKernel : Cert.Kernel.Facts) (hKernelIdeal : Cert.KernelIdeal.Facts) (hReferenceIdeal : Cert.ReferenceIdeal.Facts) (hGradIn : Cert.GradIn.Facts) (hGradInIdeal : Cert.GradInIdeal.Facts) (hGradInReferenceIdeal : Cert.GradInReferenceIdeal.Facts) (hGradOut : Cert.GradOut.Facts) (hGradOutIdeal : Cert.GradOutIdeal.Facts) (hGradOutReferenceIdeal : Cert.GradOutReferenceIdeal.Facts) (hOutBwd : Cert.OutBwd.Facts) (hOutBwdIdeal : Cert.OutBwdIdeal.Facts) (hOutBwdReferenceIdeal : Cert.OutBwdReferenceIdeal.Facts) (hGateGrad : Cert.GateGrad.Facts) (hGateGradIdeal : Cert.GateGradIdeal.Facts) (hGateGradReferenceIdeal : Cert.GateGradReferenceIdeal.Facts) (hProjGrad : Cert.ProjGrad.Facts) (hProjGradIdeal : Cert.ProjGradIdeal.Facts) (hProjGradReferenceIdeal : Cert.ProjGradReferenceIdeal.Facts) (hFwdOut : Cert.FwdOut.Facts) (hFwdOutIdeal : Cert.FwdOutIdeal.Facts) (hFwdOutReferenceIdeal : Cert.FwdOutReferenceIdeal.Facts) (hGateBwd : Cert.GateBwd.Facts) (hGateBwdIdeal : Cert.GateBwdIdeal.Facts) (hGateBwdReferenceIdeal : Cert.GateBwdReferenceIdeal.Facts) (hPle : Cert.Ple.Facts) (hPleIdeal : Cert.PleIdeal.Facts) (hPleReferenceIdeal : Cert.PleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ quiescent_GateGrad (hGateGrad := hGateGrad)
    ∧ quiescent_GateGradIdeal (hGateGradIdeal := hGateGradIdeal)
    ∧ quiescent_GateGradReferenceIdeal (hGateGradReferenceIdeal := hGateGradReferenceIdeal)
    ∧ quiescent_ProjGrad (hProjGrad := hProjGrad)
    ∧ quiescent_ProjGradIdeal (hProjGradIdeal := hProjGradIdeal)
    ∧ quiescent_ProjGradReferenceIdeal (hProjGradReferenceIdeal := hProjGradReferenceIdeal)
    ∧ quiescent_FwdOut (hFwdOut := hFwdOut)
    ∧ quiescent_FwdOutIdeal (hFwdOutIdeal := hFwdOutIdeal)
    ∧ quiescent_FwdOutReferenceIdeal (hFwdOutReferenceIdeal := hFwdOutReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ quiescent_Ple (hPle := hPle)
    ∧ quiescent_PleIdeal (hPleIdeal := hPleIdeal)
    ∧ quiescent_PleReferenceIdeal (hPleReferenceIdeal := hPleReferenceIdeal)
    ∧ preserves_Kernel_KernelIdeal
    ∧ algebraic_KernelIdeal_ReferenceIdeal (hKernelIdeal := hKernelIdeal) (hReferenceIdeal := hReferenceIdeal)
    ∧ preserves_GradIn_GradInIdeal
    ∧ algebraic_GradInIdeal_GradInReferenceIdeal (hGradInIdeal := hGradInIdeal) (hGradInReferenceIdeal := hGradInReferenceIdeal)
    ∧ preserves_GradOut_GradOutIdeal
    ∧ algebraic_GradOutIdeal_GradOutReferenceIdeal (hGradOutIdeal := hGradOutIdeal) (hGradOutReferenceIdeal := hGradOutReferenceIdeal)
    ∧ preserves_OutBwd_OutBwdIdeal
    ∧ algebraic_OutBwdIdeal_OutBwdReferenceIdeal (hOutBwdIdeal := hOutBwdIdeal) (hOutBwdReferenceIdeal := hOutBwdReferenceIdeal)
    ∧ preserves_GateGrad_GateGradIdeal
    ∧ algebraic_GateGradIdeal_GateGradReferenceIdeal (hGateGradIdeal := hGateGradIdeal) (hGateGradReferenceIdeal := hGateGradReferenceIdeal)
    ∧ preserves_ProjGrad_ProjGradIdeal
    ∧ algebraic_ProjGradIdeal_ProjGradReferenceIdeal (hProjGradIdeal := hProjGradIdeal) (hProjGradReferenceIdeal := hProjGradReferenceIdeal)
    ∧ preserves_FwdOut_FwdOutIdeal
    ∧ algebraic_FwdOutIdeal_FwdOutReferenceIdeal (hFwdOutIdeal := hFwdOutIdeal) (hFwdOutReferenceIdeal := hFwdOutReferenceIdeal)
    ∧ preserves_GateBwd_GateBwdIdeal
    ∧ algebraic_GateBwdIdeal_GateBwdReferenceIdeal (hGateBwdIdeal := hGateBwdIdeal) (hGateBwdReferenceIdeal := hGateBwdReferenceIdeal)
    ∧ preserves_Ple_PleIdeal
    ∧ algebraic_PleIdeal_PleReferenceIdeal (hPleIdeal := hPleIdeal) (hPleReferenceIdeal := hPleReferenceIdeal)
-- ==== Kernel.lean ====
abbrev S4096x1024 : Shape := ⟨2, ![4096, 1024]⟩
abbrev S4096x256 : Shape := ⟨2, ![4096, 256]⟩
abbrev S4096x6656 : Shape := ⟨2, ![4096, 6656]⟩
abbrev S16 : Shape := ⟨1, ![16]⟩
abbrev S3x1024 : Shape := ⟨2, ![3, 1024]⟩
abbrev S4096x2048 : Shape := ⟨2, ![4096, 2048]⟩
abbrev S_ : Shape := ⟨0, ![]⟩
abbrev S5x1024 : Shape := ⟨2, ![5, 1024]⟩
abbrev S8x1024 : Shape := ⟨2, ![8, 1024]⟩
abbrev S32x128x4x1x64 : Shape := ⟨5, ![32, 128, 4, 1, 64]⟩
abbrev S32x128x4x2x64 : Shape := ⟨5, ![32, 128, 4, 2, 64]⟩
abbrev S32x128x512 : Shape := ⟨3, ![32, 128, 512]⟩
abbrev S1x128x512 : Shape := ⟨3, ![1, 128, 512]⟩
abbrev S31x128x512 : Shape := ⟨3, ![31, 128, 512]⟩
abbrev S32x256x512 : Shape := ⟨3, ![32, 256, 512]⟩
abbrev S32x128x4x2x2x64 : Shape := ⟨6, ![32, 128, 4, 2, 2, 64]⟩
abbrev S32x256x4x2x64 : Shape := ⟨5, ![32, 256, 4, 2, 64]⟩
abbrev S32x4x2x256x128x2 : Shape := ⟨6, ![32, 4, 2, 256, 128, 2]⟩
abbrev S32x4x2x2x128x256 : Shape := ⟨6, ![32, 4, 2, 2, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x1x256 : Shape := ⟨3, ![32, 1, 256]⟩
abbrev S32x128x1 : Shape := ⟨3, ![32, 128, 1]⟩
abbrev S32x128x256 : Shape := ⟨3, ![32, 128, 256]⟩
abbrev S32x1x1x1x128x256 : Shape := ⟨6, ![32, 1, 1, 1, 128, 256]⟩
abbrev S4x2x2 : Shape := ⟨3, ![4, 2, 2]⟩
abbrev S1x4x2x2x1x1 : Shape := ⟨6, ![1, 4, 2, 2, 1, 1]⟩
abbrev S32x4x2x2x128 : Shape := ⟨5, ![32, 4, 2, 2, 128]⟩
abbrev S32x4x2x2x128x1 : Shape := ⟨6, ![32, 4, 2, 2, 128, 1]⟩
abbrev S32x4x2x64x2x128 : Shape := ⟨6, ![32, 4, 2, 64, 2, 128]⟩
abbrev S4096x512 : Shape := ⟨2, ![4096, 512]⟩
abbrev S1x16 : Shape := ⟨2, ![1, 16]⟩
abbrev S8x128 : Shape := ⟨2, ![8, 128]⟩
abbrev S6656x4096 : Shape := ⟨2, ![6656, 4096]⟩
abbrev S128x1024 : Shape := ⟨2, ![128, 1024]⟩
abbrev S128x512 : Shape := ⟨2, ![128, 512]⟩
abbrev S128x6656 : Shape := ⟨2, ![128, 6656]⟩
abbrev S8x6656 : Shape := ⟨2, ![8, 6656]⟩
abbrev S128x2048 : Shape := ⟨2, ![128, 2048]⟩
abbrev S8x2048 : Shape := ⟨2, ![8, 2048]⟩
abbrev S6656x128 : Shape := ⟨2, ![6656, 128]⟩
abbrev S144x1024 : Shape := ⟨2, ![144, 1024]⟩
abbrev S512x256 : Shape := ⟨2, ![512, 256]⟩
abbrev S1x1024 : Shape := ⟨2, ![1, 1024]⟩
abbrev S128x1536 : Shape := ⟨2, ![128, 1536]⟩
abbrev S128x128 : Shape := ⟨2, ![128, 128]⟩
abbrev S256x128 : Shape := ⟨2, ![256, 128]⟩
abbrev S512x128 : Shape := ⟨2, ![512, 128]⟩
abbrev S512x1 : Shape := ⟨2, ![512, 1]⟩
abbrev S1x1 : Shape := ⟨2, ![1, 1]⟩
abbrev S512 : Shape := ⟨1, ![512]⟩
abbrev S256x512 : Shape := ⟨2, ![256, 512]⟩
abbrev S1 : Shape := ⟨1, ![1]⟩
abbrev S1024 : Shape := ⟨1, ![1024]⟩

abbrev nBuf : Space → Nat
  | .hbm => 119
  | .vmem => 39
  | .smem => 1
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x6656, .f32⟩
  | .hbm, ⟨4, _⟩ => ⟨S16, .f32⟩
  | .hbm, ⟨5, _⟩ => ⟨S3x1024, .f32⟩
  | .hbm, ⟨6, _⟩ => ⟨S4096x2048, .f32⟩
  | .hbm, ⟨7, _⟩ => ⟨S_, .f32⟩
  | .hbm, ⟨8, _⟩ => ⟨S5x1024, .f32⟩
  | .hbm, ⟨9, _⟩ => ⟨S8x1024, .f32⟩
  | .hbm, ⟨10, _⟩ => ⟨S32x128x4x1x64, .f32⟩
  | .hbm, ⟨11, _⟩ => ⟨S32x128x4x2x64, .f32⟩
  | .hbm, ⟨12, _⟩ => ⟨S32x128x512, .f32⟩
  | .hbm, ⟨13, _⟩ => ⟨S_, .f32⟩
  | .hbm, ⟨14, _⟩ => ⟨S1x128x512, .f32⟩
  | .hbm, ⟨15, _⟩ => ⟨S31x128x512, .f32⟩
  | .hbm, ⟨16, _⟩ => ⟨S32x128x512, .f32⟩
  | .hbm, ⟨17, _⟩ => ⟨S32x256x512, .f32⟩
  | .hbm, ⟨18, _⟩ => ⟨S32x128x4x1x64, .f32⟩
  | .hbm, ⟨19, _⟩ => ⟨S32x128x4x2x64, .f32⟩
  | .hbm, ⟨20, _⟩ => ⟨S32x128x512, .f32⟩
  | .hbm, ⟨21, _⟩ => ⟨S_, .f32⟩
  | .hbm, ⟨22, _⟩ => ⟨S1x128x512, .f32⟩
  | .hbm, ⟨23, _⟩ => ⟨S31x128x512, .f32⟩
  | .hbm, ⟨24, _⟩ => ⟨S32x128x512, .f32⟩
  | .hbm, ⟨25, _⟩ => ⟨S32x256x512, .f32⟩
  | .hbm, ⟨26, _⟩ => ⟨S32x128x4x2x2x64, .f32⟩
  | .hbm, ⟨27, _⟩ => ⟨S32x256x4x2x64, .f32⟩
  | .hbm, ⟨28, _⟩ => ⟨S32x256x4x2x64, .f32⟩
  | .hbm, ⟨29, _⟩ => ⟨S32x4x2x256x128x2, .f32⟩
  | .hbm, ⟨30, _⟩ => ⟨S32x4x2x2x128x256, .f32⟩
  | .hbm, ⟨31, _⟩ => ⟨S_, .f32⟩
  | .hbm, ⟨32, _⟩ => ⟨S32x4x2x2x128x256, .f32⟩
  | .hbm, ⟨33, _⟩ => ⟨S32x4x2x2x128x256, .f32⟩
  | .hbm, ⟨34, _⟩ => ⟨S32, .i32⟩
  | .hbm, ⟨35, _⟩ => ⟨S32x1, .i32⟩
  | .hbm, ⟨36, _⟩ => ⟨S_, .i32⟩
  | .hbm, ⟨37, _⟩ => ⟨S32x1, .i32⟩
  | .hbm, ⟨38, _⟩ => ⟨S32x1, .i32⟩
  | .hbm, ⟨39, _⟩ => ⟨S128, .i32⟩
  | .hbm, ⟨40, _⟩ => ⟨S1x128, .i32⟩
  | .hbm, ⟨41, _⟩ => ⟨S32x128, .i32⟩
  | .hbm, ⟨42, _⟩ => ⟨S32x128, .i32⟩
  | .hbm, ⟨43, _⟩ => ⟨S32x128, .i32⟩
  | .hbm, ⟨44, _⟩ => ⟨S_, .i32⟩
  | .hbm, ⟨45, _⟩ => ⟨S32x1, .i32⟩
  | .hbm, ⟨46, _⟩ => ⟨S32x1, .i32⟩
  | .hbm, ⟨47, _⟩ => ⟨S256, .i32⟩
  | .hbm, ⟨48, _⟩ => ⟨S1x256, .i32⟩
  | .hbm, ⟨49, _⟩ => ⟨S32x256, .i32⟩
  | .hbm, ⟨50, _⟩ => ⟨S32x256, .i32⟩
  | .hbm, ⟨51, _⟩ => ⟨S32x256, .i32⟩
  | .hbm, ⟨52, _⟩ => ⟨S32x1x256, .i32⟩
  | .hbm, ⟨53, _⟩ => ⟨S32x128x1, .i32⟩
  | .hbm, ⟨54, _⟩ => ⟨S32x128x256, .i32⟩
  | .hbm, ⟨55, _⟩ => ⟨S32x128x256, .i32⟩
  | .hbm, ⟨56, _⟩ => ⟨S32x128x256, .i32⟩
  | .hbm, ⟨57, _⟩ => ⟨S_, .i32⟩
  | .hbm, ⟨58, _⟩ => ⟨S32x128x256, .i32⟩
  | .hbm, ⟨59, _⟩ => ⟨S32x128x256, .i1⟩
  | .hbm, ⟨60, _⟩ => ⟨S_, .i32⟩
  | .hbm, ⟨61, _⟩ => ⟨S32x128x256, .i32⟩
  | .hbm, ⟨62, _⟩ => ⟨S32x128x256, .i1⟩
  | .hbm, ⟨63, _⟩ => ⟨S32x128x256, .i1⟩
  | .hbm, ⟨64, _⟩ => ⟨S_, .i32⟩
  | .hbm, ⟨65, _⟩ => ⟨S32x1x256, .i32⟩
  | .hbm, ⟨66, _⟩ => ⟨S32x1x256, .i1⟩
  | .hbm, ⟨67, _⟩ => ⟨S32x128x256, .i1⟩
  | .hbm, ⟨68, _⟩ => ⟨S32x128x256, .i1⟩
  | .hbm, ⟨69, _⟩ => ⟨S32x1x1x1x128x256, .i1⟩
  | .hbm, ⟨70, _⟩ => ⟨S_, .f32⟩
  | .hbm, ⟨71, _⟩ => ⟨S_, .f32⟩
  | .hbm, ⟨72, _⟩ => ⟨S32x4x2x2x128x256, .i1⟩
  | .hbm, ⟨73, _⟩ => ⟨S32x4x2x2x128x256, .f32⟩
  | .hbm, ⟨74, _⟩ => ⟨S32x4x2x2x128x256, .f32⟩
  | .hbm, ⟨75, _⟩ => ⟨S4x2x2, .f32⟩
  | .hbm, ⟨76, _⟩ => ⟨S1x4x2x2x1x1, .f32⟩
  | .hbm, ⟨77, _⟩ => ⟨S_, .f32⟩
  | .hbm, ⟨78, _⟩ => ⟨S32x4x2x2x128, .f32⟩
  | .hbm, ⟨79, _⟩ => ⟨S32x4x2x2x128x1, .f32⟩
  | .hbm, ⟨80, _⟩ => ⟨S32x4x2x2x128x1, .f32⟩
  | .hbm, ⟨81, _⟩ => ⟨S32x4x2x2x128x1, .f32⟩
  | .hbm, ⟨82, _⟩ => ⟨S32x4x2x2x128x256, .f32⟩
  | .hbm, ⟨83, _⟩ => ⟨S32x4x2x2x128x256, .f32⟩
  | .hbm, ⟨84, _⟩ => ⟨S32x4x2x2x128x256, .f32⟩
  | .hbm, ⟨85, _⟩ => ⟨S_, .f32⟩
  | .hbm, ⟨86, _⟩ => ⟨S32x4x2x2x128, .f32⟩
  | .hbm, ⟨87, _⟩ => ⟨S32x4x2x2x128x1, .f32⟩
  | .hbm, ⟨88, _⟩ => ⟨S32x4x2x2x128x1, .f32⟩
  | .hbm, ⟨89, _⟩ => ⟨S32x4x2x2x128x1, .f32⟩
  | .hbm, ⟨90, _⟩ => ⟨S32x4x2x2x128x1, .f32⟩
  | .hbm, ⟨91, _⟩ => ⟨S32x4x2x2x128x1, .f32⟩
  | .hbm, ⟨92, _⟩ => ⟨S32x4x2x2x128x256, .f32⟩
  | .hbm, ⟨93, _⟩ => ⟨S32x4x2x2x128x256, .f32⟩
  | .hbm, ⟨94, _⟩ => ⟨S32x4x2x64x2x128, .f32⟩
  | .hbm, ⟨95, _⟩ => ⟨S32x128x4x2x2x64, .f32⟩
  | .hbm, ⟨96, _⟩ => ⟨S4096x1024, .f32⟩
  | .hbm, ⟨97, _⟩ => ⟨S4096x1024, .bf16⟩
  | .hbm, ⟨98, _⟩ => ⟨S32x128x4x1x64, .f32⟩
  | .hbm, ⟨99, _⟩ => ⟨S32x128x4x2x64, .f32⟩
  | .hbm, ⟨100, _⟩ => ⟨S32x128x512, .f32⟩
  | .hbm, ⟨101, _⟩ => ⟨S4096x512, .f32⟩
  | .hbm, ⟨102, _⟩ => ⟨S4096x512, .bf16⟩
  | .hbm, ⟨103, _⟩ => ⟨S32x128x4x1x64, .f32⟩
  | .hbm, ⟨104, _⟩ => ⟨S32x128x4x2x64, .f32⟩
  | .hbm, ⟨105, _⟩ => ⟨S32x128x512, .f32⟩
  | .hbm, ⟨106, _⟩ => ⟨S4096x512, .f32⟩
  | .hbm, ⟨107, _⟩ => ⟨S4096x512, .bf16⟩
  | .hbm, ⟨108, _⟩ => ⟨S1x16, .f32⟩
  | .hbm, ⟨109, _⟩ => ⟨S_, .f32⟩
  | .hbm, ⟨110, _⟩ => ⟨S8x128, .f32⟩
  | .hbm, ⟨111, _⟩ => ⟨S4096x1024, .f32⟩
  | .hbm, ⟨112, _⟩ => ⟨S4096x512, .f32⟩
  | .hbm, ⟨113, _⟩ => ⟨S4096x512, .f32⟩
  | .hbm, ⟨114, _⟩ => ⟨S4096x512, .f32⟩
  | .hbm, ⟨115, _⟩ => ⟨S4096x512, .f32⟩
  | .hbm, ⟨116, _⟩ => ⟨S4096x6656, .bf16⟩
  | .hbm, ⟨117, _⟩ => ⟨S6656x4096, .bf16⟩
  | .hbm, ⟨118, _⟩ => ⟨S8x1024, .f32⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x1024, .f32⟩
  | .local _ .vmem, ⟨11, _⟩ => ⟨S128x1024, .f32⟩
  | .local _ .vmem, ⟨12, _⟩ => ⟨S128x6656, .f32⟩
  | .local _ .vmem, ⟨13, _⟩ => ⟨S128x6656, .f32⟩
  | .local _ .vmem, ⟨14, _⟩ => ⟨S8x6656, .f32⟩
  | .local _ .vmem, ⟨15, _⟩ => ⟨S8x6656, .f32⟩
  | .local _ .vmem, ⟨16, _⟩ => ⟨S8x6656, .f32⟩
  | .local _ .vmem, ⟨17, _⟩ => ⟨S8x6656, .f32⟩
  | .local _ .vmem, ⟨18, _⟩ => ⟨S128x2048, .f32⟩
  | .local _ .vmem, ⟨19, _⟩ => ⟨S128x2048, .f32⟩
  | .local _ .vmem, ⟨20, _⟩ => ⟨S8x2048, .f32⟩
  | .local _ .vmem, ⟨21, _⟩ => ⟨S8x2048, .f32⟩
  | .local _ .vmem, ⟨22, _⟩ => ⟨S8x1024, .f32⟩
  | .local _ .vmem, ⟨23, _⟩ => ⟨S128x1024, .f32⟩
  | .local _ .vmem, ⟨24, _⟩ => ⟨S128x1024, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | .local _ .vmem, ⟨32, _⟩ => ⟨S128x512, .f32⟩
  | .local _ .vmem, ⟨33, _⟩ => ⟨S128x6656, .bf16⟩
  | .local _ .vmem, ⟨34, _⟩ => ⟨S128x6656, .bf16⟩
  | .local _ .vmem, ⟨35, _⟩ => ⟨S6656x128, .bf16⟩
  | .local _ .vmem, ⟨36, _⟩ => ⟨S6656x128, .bf16⟩
  | .local _ .vmem, ⟨37, _⟩ => ⟨S8x1024, .f32⟩
  | .local _ .vmem, ⟨38, _⟩ => ⟨S144x1024, .f32⟩
  | .local _ .smem, ⟨0, _⟩ => ⟨S1x16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_4 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_10 : Ref sig .tc := ⟨.hbm, 109, rfl⟩
abbrev main_v87 : Ref sig .tc := ⟨.hbm, 110, rfl⟩
abbrev main_v88_0 : Ref sig .tc := ⟨.hbm, 111, rfl⟩
abbrev main_v88_1 : Ref sig .tc := ⟨.hbm, 112, rfl⟩
abbrev main_v88_2 : Ref sig .tc := ⟨.hbm, 113, rfl⟩
abbrev main_v88_3 : Ref sig .tc := ⟨.hbm, 114, rfl⟩
abbrev main_v88_4 : Ref sig .tc := ⟨.hbm, 115, rfl⟩
abbrev main_v88_5 : Ref sig .tc := ⟨.hbm, 116, rfl⟩
abbrev main_v88_6 : Ref sig .tc := ⟨.hbm, 117, rfl⟩
abbrev main_v88_7 : Ref sig .tc := ⟨.hbm, 118, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_scratch0 : Ref sig .tc := ⟨.vmem, 38, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x6656 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x6656 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x6656 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x6656 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S6656x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x256 : Shape := ⟨2, ![4096, 256]⟩
abbrev S4096x6656 : Shape := ⟨2, ![4096, 6656]⟩
abbrev S16 : Shape := ⟨1, ![16]⟩
abbrev S3x1024 : Shape := ⟨2, ![3, 1024]⟩
abbrev S4096x2048 : Shape := ⟨2, ![4096, 2048]⟩
abbrev S32x128x4x1x64 : Shape := ⟨5, ![32, 128, 4, 1, 64]⟩
abbrev S32x128x4x2x64 : Shape := ⟨5, ![32, 128, 4, 2, 64]⟩
abbrev S32x128x512 : Shape := ⟨3, ![32, 128, 512]⟩
abbrev S_ : Shape := ⟨0, ![]⟩
abbrev S1x128x512 : Shape := ⟨3, ![1, 128, 512]⟩
abbrev S31x128x512 : Shape := ⟨3, ![31, 128, 512]⟩
abbrev S32x256x512 : Shape := ⟨3, ![32, 256, 512]⟩
abbrev S32x128x4x2x2x64 : Shape := ⟨6, ![32, 128, 4, 2, 2, 64]⟩
abbrev S32x256x4x2x64 : Shape := ⟨5, ![32, 256, 4, 2, 64]⟩
abbrev S32x4x2x256x128x2 : Shape := ⟨6, ![32, 4, 2, 256, 128, 2]⟩
abbrev S32x4x2x2x128x256 : Shape := ⟨6, ![32, 4, 2, 2, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x1x256 : Shape := ⟨3, ![32, 1, 256]⟩
abbrev S32x128x1 : Shape := ⟨3, ![32, 128, 1]⟩
abbrev S32x128x256 : Shape := ⟨3, ![32, 128, 256]⟩
abbrev S32x1x1x1x128x256 : Shape := ⟨6, ![32, 1, 1, 1, 128, 256]⟩
abbrev S4x2x2 : Shape := ⟨3, ![4, 2, 2]⟩
abbrev S1x4x2x2x1x1 : Shape := ⟨6, ![1, 4, 2, 2, 1, 1]⟩
abbrev S32x4x2x2x128 : Shape := ⟨5, ![32, 4, 2, 2, 128]⟩
abbrev S32x4x2x2x128x1 : Shape := ⟨6, ![32, 4, 2, 2, 128, 1]⟩
abbrev S32x4x2x64x2x128 : Shape := ⟨6, ![32, 4, 2, 64, 2, 128]⟩
abbrev S32x4x2x64x256 : Shape := ⟨5, ![32, 4, 2, 64, 256]⟩
abbrev S4096x512 : Shape := ⟨2, ![4096, 512]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x6656, .f32⟩
  | .hbm, ⟨4, _⟩ => ⟨S16, .f32⟩
  | .hbm, ⟨5, _⟩ => ⟨S3x1024, .f32⟩
  | .hbm, ⟨6, _⟩ => ⟨S4096x2048, .f32⟩
  | .hbm, ⟨7, _⟩ => ⟨S32x128x4x1x64, .f32⟩
  | .hbm, ⟨8, _⟩ => ⟨S32x128x4x2x64, .f32⟩
  | .hbm, ⟨9, _⟩ => ⟨S32x128x512, .f32⟩
  | .hbm, ⟨10, _⟩ => ⟨S_, .f32⟩
  | .hbm, ⟨11, _⟩ => ⟨S1x128x512, .f32⟩
  | .hbm, ⟨12, _⟩ => ⟨S31x128x512, .f32⟩
  | .hbm, ⟨13, _⟩ => ⟨S32x128x512, .f32⟩
  | .hbm, ⟨14, _⟩ => ⟨S32x256x512, .f32⟩
  | .hbm, ⟨15, _⟩ => ⟨S32x128x4x1x64, .f32⟩
  | .hbm, ⟨16, _⟩ => ⟨S32x128x4x2x64, .f32⟩
  | .hbm, ⟨17, _⟩ => ⟨S32x128x512, .f32⟩
  | .hbm, ⟨18, _⟩ => ⟨S_, .f32⟩
  | .hbm, ⟨19, _⟩ => ⟨S1x128x512, .f32⟩
  | .hbm, ⟨20, _⟩ => ⟨S31x128x512, .f32⟩
  | .hbm, ⟨21, _⟩ => ⟨S32x128x512, .f32⟩
  | .hbm, ⟨22, _⟩ => ⟨S32x256x512, .f32⟩
  | .hbm, ⟨23, _⟩ => ⟨S4096x1024, .f32⟩
  | .hbm, ⟨24, _⟩ => ⟨S32x128x4x2x2x64, .f32⟩
  | .hbm, ⟨25, _⟩ => ⟨S32x256x4x2x64, .f32⟩
  | .hbm, ⟨26, _⟩ => ⟨S32x256x4x2x64, .f32⟩
  | .hbm, ⟨27, _⟩ => ⟨S32x4x2x256x128x2, .f32⟩
  | .hbm, ⟨28, _⟩ => ⟨S32x4x2x2x128x256, .f32⟩
  | .hbm, ⟨29, _⟩ => ⟨S_, .f32⟩
  | .hbm, ⟨30, _⟩ => ⟨S32x4x2x2x128x256, .f32⟩
  | .hbm, ⟨31, _⟩ => ⟨S32x4x2x2x128x256, .f32⟩
  | .hbm, ⟨32, _⟩ => ⟨S32, .i32⟩
  | .hbm, ⟨33, _⟩ => ⟨S32x1, .i32⟩
  | .hbm, ⟨34, _⟩ => ⟨S_, .i32⟩
  | .hbm, ⟨35, _⟩ => ⟨S32x1, .i32⟩
  | .hbm, ⟨36, _⟩ => ⟨S32x1, .i32⟩
  | .hbm, ⟨37, _⟩ => ⟨S128, .i32⟩
  | .hbm, ⟨38, _⟩ => ⟨S1x128, .i32⟩
  | .hbm, ⟨39, _⟩ => ⟨S32x128, .i32⟩
  | .hbm, ⟨40, _⟩ => ⟨S32x128, .i32⟩
  | .hbm, ⟨41, _⟩ => ⟨S32x128, .i32⟩
  | .hbm, ⟨42, _⟩ => ⟨S_, .i32⟩
  | .hbm, ⟨43, _⟩ => ⟨S32x1, .i32⟩
  | .hbm, ⟨44, _⟩ => ⟨S32x1, .i32⟩
  | .hbm, ⟨45, _⟩ => ⟨S256, .i32⟩
  | .hbm, ⟨46, _⟩ => ⟨S1x256, .i32⟩
  | .hbm, ⟨47, _⟩ => ⟨S32x256, .i32⟩
  | .hbm, ⟨48, _⟩ => ⟨S32x256, .i32⟩
  | .hbm, ⟨49, _⟩ => ⟨S32x256, .i32⟩
  | .hbm, ⟨50, _⟩ => ⟨S32x1x256, .i32⟩
  | .hbm, ⟨51, _⟩ => ⟨S32x128x1, .i32⟩
  | .hbm, ⟨52, _⟩ => ⟨S32x128x256, .i32⟩
  | .hbm, ⟨53, _⟩ => ⟨S32x128x256, .i32⟩
  | .hbm, ⟨54, _⟩ => ⟨S32x128x256, .i32⟩
  | .hbm, ⟨55, _⟩ => ⟨S_, .i32⟩
  | .hbm, ⟨56, _⟩ => ⟨S32x128x256, .i32⟩
  | .hbm, ⟨57, _⟩ => ⟨S32x128x256, .i1⟩
  | .hbm, ⟨58, _⟩ => ⟨S_, .i32⟩
  | .hbm, ⟨59, _⟩ => ⟨S32x128x256, .i32⟩
  | .hbm, ⟨60, _⟩ => ⟨S32x128x256, .i1⟩
  | .hbm, ⟨61, _⟩ => ⟨S32x128x256, .i1⟩
  | .hbm, ⟨62, _⟩ => ⟨S_, .i32⟩
  | .hbm, ⟨63, _⟩ => ⟨S32x1x256, .i32⟩
  | .hbm, ⟨64, _⟩ => ⟨S32x1x256, .i1⟩
  | .hbm, ⟨65, _⟩ => ⟨S32x128x256, .i1⟩
  | .hbm, ⟨66, _⟩ => ⟨S32x128x256, .i1⟩
  | .hbm, ⟨67, _⟩ => ⟨S32x1x1x1x128x256, .i1⟩
  | .hbm, ⟨68, _⟩ => ⟨S_, .f32⟩
  | .hbm, ⟨69, _⟩ => ⟨S_, .f32⟩
  | .hbm, ⟨70, _⟩ => ⟨S32x4x2x2x128x256, .i1⟩
  | .hbm, ⟨71, _⟩ => ⟨S32x4x2x2x128x256, .f32⟩
  | .hbm, ⟨72, _⟩ => ⟨S32x4x2x2x128x256, .f32⟩
  | .hbm, ⟨73, _⟩ => ⟨S4x2x2, .f32⟩
  | .hbm, ⟨74, _⟩ => ⟨S1x4x2x2x1x1, .f32⟩
  | .hbm, ⟨75, _⟩ => ⟨S_, .f32⟩
  | .hbm, ⟨76, _⟩ => ⟨S32x4x2x2x128, .f32⟩
  | .hbm, ⟨77, _⟩ => ⟨S32x4x2x2x128x1, .f32⟩
  | .hbm, ⟨78, _⟩ => ⟨S32x4x2x2x128x1, .f32⟩
  | .hbm, ⟨79, _⟩ => ⟨S32x4x2x2x128x1, .f32⟩
  | .hbm, ⟨80, _⟩ => ⟨S32x4x2x2x128x256, .f32⟩
  | .hbm, ⟨81, _⟩ => ⟨S32x4x2x2x128x256, .f32⟩
  | .hbm, ⟨82, _⟩ => ⟨S32x4x2x2x128x256, .f32⟩
  | .hbm, ⟨83, _⟩ => ⟨S_, .f32⟩
  | .hbm, ⟨84, _⟩ => ⟨S32x4x2x2x128, .f32⟩
  | .hbm, ⟨85, _⟩ => ⟨S32x4x2x2x128x1, .f32⟩
  | .hbm, ⟨86, _⟩ => ⟨S32x4x2x2x128x1, .f32⟩
  | .hbm, ⟨87, _⟩ => ⟨S32x4x2x2x128x1, .f32⟩
  | .hbm, ⟨88, _⟩ => ⟨S32x4x2x2x128x1, .f32⟩
  | .hbm, ⟨89, _⟩ => ⟨S32x4x2x2x128x1, .f32⟩
  | .hbm, ⟨90, _⟩ => ⟨S32x4x2x2x128x256, .f32⟩
  | .hbm, ⟨91, _⟩ => ⟨S32x4x2x2x128x256, .f32⟩
  | .hbm, ⟨92, _⟩ => ⟨S32x4x2x64x2x128, .f32⟩
  | .hbm, ⟨93, _⟩ => ⟨S32x128x4x2x2x64, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S32x128x4x2x2x64, .f32⟩
  | .hbm, ⟨108, _⟩ => ⟨S32x4x2x64x2x128, .f32⟩
  | .hbm, ⟨109, _⟩ => ⟨S32x4x2x64x256, .f32⟩
  | .hbm, ⟨110, _⟩ => ⟨S32x256x4x2x64, .f32⟩
  | .hbm, ⟨111, _⟩ => ⟨S32x256x512, .f32⟩
  | .hbm, ⟨112, _⟩ => ⟨S32x128x512, .f32⟩
  | .hbm, ⟨113, _⟩ => ⟨S4096x512, .f32⟩
  | .hbm, ⟨114, _⟩ => ⟨S32x128x512, .f32⟩
  | .hbm, ⟨115, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_3 : Ref sig .tc := ⟨.hbm, 55, rfl⟩
abbrev main_v43 : Ref sig .tc := ⟨.hbm, 56, rfl⟩
abbrev main_v44 : Ref sig .tc := ⟨.hbm, 57, rfl⟩
abbrev main_c_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== GradIn.lean ====
abbrev S4096x2048 : Shape := ⟨2, ![4096, 2048]⟩
abbrev S2048x6656 : Shape := ⟨2, ![2048, 6656]⟩
abbrev S4096x6656 : Shape := ⟨2, ![4096, 6656]⟩
abbrev S6656x4096 : Shape := ⟨2, ![6656, 4096]⟩
abbrev S8x832x2048 : Shape := ⟨3, ![8, 832, 2048]⟩
abbrev S832x4096 : Shape := ⟨2, ![832, 4096]⟩
abbrev S1x832x2048 : Shape := ⟨3, ![1, 832, 2048]⟩
abbrev S832x2048 : Shape := ⟨2, ![832, 2048]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x6656, .f32⟩
  | .hbm, ⟨2, _⟩ => ⟨S4096x6656, .f32⟩
  | .hbm, ⟨3, _⟩ => ⟨S6656x4096, .f32⟩
  | .hbm, ⟨4, _⟩ => ⟨S6656x4096, .bf16⟩
  | .hbm, ⟨5, _⟩ => ⟨S4096x2048, .bf16⟩
  | .hbm, ⟨6, _⟩ => ⟨S8x832x2048, .bf16⟩
  | .local _ .vmem, ⟨0, _⟩ => ⟨S832x4096, .bf16⟩
  | .local _ .vmem, ⟨1, _⟩ => ⟨S832x4096, .bf16⟩
  | .local _ .vmem, ⟨2, _⟩ => ⟨S4096x2048, .bf16⟩
  | .local _ .vmem, ⟨3, _⟩ => ⟨S1x832x2048, .bf16⟩
  | .local _ .vmem, ⟨4, _⟩ => ⟨S1x832x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S832x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x832x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradInReferenceIdeal.lean ====
abbrev S4096x2048 : Shape := ⟨2, ![4096, 2048]⟩
abbrev S2048x6656 : Shape := ⟨2, ![2048, 6656]⟩
abbrev S4096x6656 : Shape := ⟨2, ![4096, 6656]⟩
abbrev S6656x2048 : Shape := ⟨2, ![6656, 2048]⟩
abbrev S8x832x2048 : Shape := ⟨3, ![8, 832, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6656, .f32⟩
  | .hbm, ⟨2, _⟩ => ⟨S4096x6656, .f32⟩
  | .hbm, ⟨3, _⟩ => ⟨S4096x6656, .f32⟩
  | .hbm, ⟨4, _⟩ => ⟨S6656x2048, .f32⟩
  | .hbm, ⟨5, _⟩ => ⟨S2048x6656, .f32⟩
  | .hbm, ⟨6, _⟩ => ⟨S6656x2048, .f32⟩
  | .hbm, ⟨7, _⟩ => ⟨S8x832x2048, .f32⟩
  | .hbm, ⟨8, _⟩ => ⟨S8x832x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradOut.lean ====
abbrev S4096x2048 : Shape := ⟨2, ![4096, 2048]⟩
abbrev S2048x2048 : Shape := ⟨2, ![2048, 2048]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x4096, .f32⟩
  | .hbm, ⟨4, _⟩ => ⟨S2048x4096, .bf16⟩
  | .hbm, ⟨5, _⟩ => ⟨S4096x2048, .bf16⟩
  | .hbm, ⟨6, _⟩ => ⟨S2048x2048, .bf16⟩
  | .local _ .vmem, ⟨0, _⟩ => ⟨S2048x4096, .bf16⟩
  | .local _ .vmem, ⟨1, _⟩ => ⟨S4096x512, .bf16⟩
  | .local _ .vmem, ⟨2, _⟩ => ⟨S4096x512, .bf16⟩
  | .local _ .vmem, ⟨3, _⟩ => ⟨S2048x512, .bf16⟩
  | .local _ .vmem, ⟨4, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradOutReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutBwd.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .bf16⟩
  | .hbm, ⟨6, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutBwdReferenceIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GateGrad.lean ====
abbrev S4096x2048 : Shape := ⟨2, ![4096, 2048]⟩
abbrev S2048x2048 : Shape := ⟨2, ![2048, 2048]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x4096, .f32⟩
  | .hbm, ⟨4, _⟩ => ⟨S2048x4096, .bf16⟩
  | .hbm, ⟨5, _⟩ => ⟨S4096x2048, .bf16⟩
  | .hbm, ⟨6, _⟩ => ⟨S2048x2048, .bf16⟩
  | .local _ .vmem, ⟨0, _⟩ => ⟨S2048x4096, .bf16⟩
  | .local _ .vmem, ⟨1, _⟩ => ⟨S4096x512, .bf16⟩
  | .local _ .vmem, ⟨2, _⟩ => ⟨S4096x512, .bf16⟩
  | .local _ .vmem, ⟨3, _⟩ => ⟨S2048x512, .bf16⟩
  | .local _ .vmem, ⟨4, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateGradReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjGrad.lean ====
abbrev S4096x256 : Shape := ⟨2, ![4096, 256]⟩
abbrev S256x2048 : Shape := ⟨2, ![256, 2048]⟩
abbrev S4096x2048 : Shape := ⟨2, ![4096, 2048]⟩
abbrev S256x4096 : Shape := ⟨2, ![256, 4096]⟩
abbrev S4096x512 : Shape := ⟨2, ![4096, 512]⟩
abbrev S256x512 : Shape := ⟨2, ![256, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S256x4096, .f32⟩
  | .hbm, ⟨4, _⟩ => ⟨S256x4096, .bf16⟩
  | .hbm, ⟨5, _⟩ => ⟨S4096x2048, .bf16⟩
  | .hbm, ⟨6, _⟩ => ⟨S256x2048, .bf16⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S256x512, .bf16⟩
  | .local _ .vmem, ⟨4, _⟩ => ⟨S256x512, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjGradReferenceIdeal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .f32⟩
  | .hbm, ⟨4, _⟩ => ⟨S2048x256, .f32⟩
  | .hbm, ⟨5, _⟩ => ⟨S256x2048, .f32⟩
  | .hbm, ⟨6, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FwdOut.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x4096 : Shape := ⟨2, ![2048, 4096]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048, .f32⟩
  | .hbm, ⟨4, _⟩ => ⟨S4096x2048, .bf16⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S2048x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x512, .bf16⟩
  | .local _ .vmem, ⟨11, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdOutReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | .hbm, ⟨23, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GateBwd.lean ====
abbrev S4096x2048 : Shape := ⟨2, ![4096, 2048]⟩
abbrev S2048 : Shape := ⟨1, ![2048]⟩
abbrev S2048x2048 : Shape := ⟨2, ![2048, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S1x2048, .f32⟩
  | .hbm, ⟨8, _⟩ => ⟨S4096x2048, .f32⟩
  | .hbm, ⟨9, _⟩ => ⟨S4096x2048, .bf16⟩
  | .hbm, ⟨10, _⟩ => ⟨S8x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateBwdReferenceIdeal.lean ====
abbrev S4096x2048 : Shape := ⟨2, ![4096, 2048]⟩
abbrev S2048 : Shape := ⟨1, ![2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S7x2048 : Shape := ⟨2, ![7, 2048]⟩
abbrev S8x2048 : Shape := ⟨2, ![8, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S_, .f32⟩
  | .hbm, ⟨31, _⟩ => ⟨S7x2048, .f32⟩
  | .hbm, ⟨32, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Ple.lean ====
abbrev S4096x2048 : Shape := ⟨2, ![4096, 2048]⟩
abbrev S2048x2048 : Shape := ⟨2, ![2048, 2048]⟩
abbrev S2048 : Shape := ⟨1, ![2048]⟩
abbrev S4096x256 : Shape := ⟨2, ![4096, 256]⟩
abbrev S256x2048 : Shape := ⟨2, ![256, 2048]⟩
abbrev S1x2048 : Shape := ⟨2, ![1, 2048]⟩
abbrev S256x4096 : Shape := ⟨2, ![256, 4096]⟩
abbrev S8x2048 : Shape := ⟨2, ![8, 2048]⟩
abbrev S256x256 : Shape := ⟨2, ![256, 256]⟩
abbrev S256 : Shape := ⟨1, ![256]⟩
abbrev S256x1 : Shape := ⟨2, ![256, 1]⟩

abbrev nBuf : Space → Nat
  | .hbm => 18
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x256, .f32⟩
  | .hbm, ⟨4, _⟩ => ⟨S256x2048, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S2048x2048, .bf16⟩
  | .hbm, ⟨10, _⟩ => ⟨S1x2048, .f32⟩
  | .hbm, ⟨11, _⟩ => ⟨S256x2048, .bf16⟩
  | .hbm, ⟨12, _⟩ => ⟨S1x2048, .f32⟩
  | .hbm, ⟨13, _⟩ => ⟨S4096x2048, .f32⟩
  | .hbm, ⟨14, _⟩ => ⟨S4096x2048, .bf16⟩
  | .hbm, ⟨15, _⟩ => ⟨S4096x2048, .bf16⟩
  | .hbm, ⟨16, _⟩ => ⟨S256x4096, .bf16⟩
  | .hbm, ⟨17, _⟩ => ⟨S8x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S1x2048, .f32⟩
  | .local _ .vmem, ⟨4, _⟩ => ⟨S256x256, .f32⟩
  | .local _ .vmem, ⟨5, _⟩ => ⟨S256x256, .f32⟩
  | .local _ .vmem, ⟨6, _⟩ => ⟨S256x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x256, .bf16⟩
  | .local _ .vmem, ⟨19, _⟩ => ⟨S256x256, .bf16⟩
  | .local _ .vmem, ⟨20, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleReferenceIdeal.lean ====
abbrev S4096x2048 : Shape := ⟨2, ![4096, 2048]⟩
abbrev S2048x2048 : Shape := ⟨2, ![2048, 2048]⟩
abbrev S2048 : Shape := ⟨1, ![2048]⟩
abbrev S4096x256 : Shape := ⟨2, ![4096, 256]⟩
abbrev S256x2048 : Shape := ⟨2, ![256, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S5x2048 : Shape := ⟨2, ![5, 2048]⟩
abbrev S8x2048 : Shape := ⟨2, ![8, 2048]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x256, .f32⟩
  | .hbm, ⟨4, _⟩ => ⟨S256x2048, .f32⟩
  | .hbm, ⟨5, _⟩ => ⟨S2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S_, .f32⟩
  | .hbm, ⟨73, _⟩ => ⟨S2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S_, .f32⟩
  | .hbm, ⟨79, _⟩ => ⟨S2048, .f32⟩
  | .hbm, ⟨80, _⟩ => ⟨S_, .f32⟩
  | .hbm, ⟨81, _⟩ => ⟨S2048, .f32⟩
  | .hbm, ⟨82, _⟩ => ⟨S_, .f32⟩
  | .hbm, ⟨83, _⟩ => ⟨S2048, .f32⟩
  | .hbm, ⟨84, _⟩ => ⟨S2048, .f32⟩
  | .hbm, ⟨85, _⟩ => ⟨S_, .f32⟩
  | .hbm, ⟨86, _⟩ => ⟨S2048, .f32⟩
  | .hbm, ⟨87, _⟩ => ⟨S2048, .f32⟩
  | .hbm, ⟨88, _⟩ => ⟨S_, .f32⟩
  | .hbm, ⟨89, _⟩ => ⟨S5x2048, .f32⟩
  | .hbm, ⟨90, _⟩ => ⟨S4096x2048, .bf16⟩
  | .hbm, ⟨91, _⟩ => ⟨S1x2048, .f32⟩
  | .hbm, ⟨92, _⟩ => ⟨S1x2048, .f32⟩
  | .hbm, ⟨93, _⟩ => ⟨S1x2048, .f32⟩
  | .hbm, ⟨94, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_cst_10 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_cst_17 : Ref sig .tc := ⟨.hbm, 80, rfl⟩
abbrev main_v54 : Ref sig .tc := ⟨.hbm, 81, rfl⟩
abbrev main_cst_18 : Ref sig .tc := ⟨.hbm, 82, rfl⟩
abbrev main_v55 : Ref sig .tc := ⟨.hbm, 83, rfl⟩
abbrev main_v56 : Ref sig .tc := ⟨.hbm, 84, rfl⟩
abbrev main_cst_19 : Ref sig .tc := ⟨.hbm, 85, rfl⟩
abbrev main_v57 : Ref sig .tc := ⟨.hbm, 86, rfl⟩
abbrev main_v58 : Ref sig .tc := ⟨.hbm, 87, rfl⟩
abbrev main_cst_20 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]
-- ==== Proof.RunFirst.lean ====
/- The run of the kernel body at the first row block: the accumulator is cleared first: what it stores, found by executing it symbolically. -/
module

public import proofs.«01_k».proof.Proof.Gen.KernelIdeal.Frame.Runs

@[expose] public section

set_option maxRecDepth 16384

noncomputable section

namespace Cert.KernelIdeal.Bwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the kernel body's stores leave in each output's staging buffer, as pieces (last first), at the first row block: the accumulator is cleared first,
    with the proof that the body, run on whole staging buffers that hold the input blocks, ends with the inputs as they
    were and every output buffer with its pieces written. -/
noncomputable def runFirst (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x1024 .f32) (harg7 : arg7.IsWhole) (arg8 : Memref sig .tc .vmem S128x6656 .f32) (harg8 : arg8.IsWhole) (arg9 : Memref sig .tc .vmem S8x6656 .f32) (harg9 : arg9.IsWhole) (arg10 : Memref sig .tc .vmem S8x6656 .f32) (harg10 : arg10.IsWhole) (arg11 : Memref sig .tc .vmem S128x2048 .f32) (harg11 : arg11.IsWhole) (arg12 : Memref sig .tc .vmem S8x2048 .f32) (harg12 : arg12.IsWhole) (arg13 : Memref sig .tc .vmem S8x1024 .f32) (harg13 : arg13.IsWhole) (arg15 : Memref sig .tc .vmem S128x1024 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x6656 .bf16) (harg20 : arg20.IsWhole) (arg21 : Memref sig .tc .vmem S6656x128 .bf16) (harg21 : arg21.IsWhole) (arg22 : Memref sig .tc .vmem S8x1024 .f32) (harg22 : arg22.IsWhole) (arg23 : Memref sig .tc .vmem S144x1024 .f32) (harg23 : arg23.IsWhole) (hc0 : cond0_0 i)
    (x0 : Vec F S1x16 .f32) (x1 : Vec F S128x1024 .bf16) (x2 : Vec F S128x512 .bf16) (x3 : Vec F S128x512 .bf16) (x4 : Vec F S128x512 .bf16) (x5 : Vec F S128x512 .bf16) (x6 : Vec F S128x1024 .f32) (x7 : Vec F S128x6656 .f32) (x8 : Vec F S8x6656 .f32) (x9 : Vec F S8x6656 .f32) (x10 : Vec F S128x2048 .f32) (x11 : Vec F S8x2048 .f32) (x12 : Vec F S8x1024 .f32) :
    Σ' (L13 : List (View.Piece (Elt F) S128x1024 .f32)), Σ' (L14 : List (View.Piece (Elt F) S128x512 .f32)), Σ' (L15 : List (View.Piece (Elt F) S128x512 .f32)), Σ' (L16 : List (View.Piece (Elt F) S128x512 .f32)), Σ' (L17 : List (View.Piece (Elt F) S128x512 .f32)), Σ' (L18 : List (View.Piece (Elt F) S128x6656 .bf16)), Σ' (L19 : List (View.Piece (Elt F) S6656x128 .bf16)), Σ' (L20 : List (View.Piece (Elt F) S8x1024 .f32)), { LT0 : List (View.Piece (Elt F) S144x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LT0)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 (Memref.whole main_v87) (Memref.isWhole_whole _) arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS0

end Cert.KernelIdeal.Bwd

end
-- ==== Proof.RunLater.lean ====
/- The run of the kernel body at any later row block: the accumulator is read as the block before left it: what it stores, found by executing it symbolically. -/
module

public import proofs.«01_k».proof.Proof.RunFirst

@[expose] public section

set_option maxRecDepth 16384

noncomputable section

namespace Cert.KernelIdeal.Bwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1600000 in
/-- What the kernel body's stores leave in each output's staging buffer, as pieces (last first), at any later row block: the accumulator is read as the block before left it,
    with the proof that the body, run on whole staging buffers that hold the input blocks, ends with the inputs as they
    were and every output buffer with its pieces written. -/
noncomputable def runLater (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x1024 .f32) (harg7 : arg7.IsWhole) (arg8 : Memref sig .tc .vmem S128x6656 .f32) (harg8 : arg8.IsWhole) (arg9 : Memref sig .tc .vmem S8x6656 .f32) (harg9 : arg9.IsWhole) (arg10 : Memref sig .tc .vmem S8x6656 .f32) (harg10 : arg10.IsWhole) (arg11 : Memref sig .tc .vmem S128x2048 .f32) (harg11 : arg11.IsWhole) (arg12 : Memref sig .tc .vmem S8x2048 .f32) (harg12 : arg12.IsWhole) (arg13 : Memref sig .tc .vmem S8x1024 .f32) (harg13 : arg13.IsWhole) (arg15 : Memref sig .tc .vmem S128x1024 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x6656 .bf16) (harg20 : arg20.IsWhole) (arg21 : Memref sig .tc .vmem S6656x128 .bf16) (harg21 : arg21.IsWhole) (arg22 : Memref sig .tc .vmem S8x1024 .f32) (harg22 : arg22.IsWhole) (arg23 : Memref sig .tc .vmem S144x1024 .f32) (harg23 : arg23.IsWhole) (hc0 : ¬cond0_0 i)
    (x0 : Vec F S1x16 .f32) (x1 : Vec F S128x1024 .bf16) (x2 : Vec F S128x512 .bf16) (x3 : Vec F S128x512 .bf16) (x4 : Vec F S128x512 .bf16) (x5 : Vec F S128x512 .bf16) (x6 : Vec F S128x1024 .f32) (x7 : Vec F S128x6656 .f32) (x8 : Vec F S8x6656 .f32) (x9 : Vec F S8x6656 .f32) (x10 : Vec F S128x2048 .f32) (x11 : Vec F S8x2048 .f32) (x12 : Vec F S8x1024 .f32) (xo20 : Vec F S8x1024 .f32) :
    Σ' (L13 : List (View.Piece (Elt F) S128x1024 .f32)), Σ' (L14 : List (View.Piece (Elt F) S128x512 .f32)), Σ' (L15 : List (View.Piece (Elt F) S128x512 .f32)), Σ' (L16 : List (View.Piece (Elt F) S128x512 .f32)), Σ' (L17 : List (View.Piece (Elt F) S128x512 .f32)), Σ' (L18 : List (View.Piece (Elt F) S128x6656 .bf16)), Σ' (L19 : List (View.Piece (Elt F) S6656x128 .bf16)), Σ' (L20 : List (View.Piece (Elt F) S8x1024 .f32)), { LT0 : List (View.Piece (Elt F) S144x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xo20 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (arg22.view.loc (c : Thread nD τ) ↦[arg22.view.set]{fullShare} arg22.view.writes (Elt F) (harg22.unread xo20) L20) ∗ (∃ f, arg23.view.loc (c : Thread nD τ) ↦[arg23.view.set]{fullShare} arg23.view.writes (Elt F) f LT0)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 (Memref.whole main_v87) (Memref.isWhole_whole _) arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg22.eq_unread hf20
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    iexists _; iexact HS0

end Cert.KernelIdeal.Bwd

end
-- ==== Proof.Blocks.lean ====
/- What the kernel body computes of the blocks one grid point is handed: one KV head's part of the attention's gradient as
   functions of that head's columns, the four heads being the same functions at other columns; the gradient of the gated
   convolution; and the blocks of the eight results as the stores that make them up. -/
module

public import proofs.«01_k».proof.Proof.Gen.KernelIdeal.Skeleton
public import Idealize.ShloMosaic.Lib.Pipeline.Value

@[expose] public section

set_option synthInstance.maxSize 4096

noncomputable section

namespace Cert.KernelIdeal.Bwd

open Cert.KernelIdeal Cert.KernelIdeal.Gen Idealize.ShloMosaic Idealize.SL.Sem

variable {F : FTy → Type} [FloatOps F] [Named F]

/-- The blocks a grid point is handed: the sinks; the query block; the current and the previous block of the doubled
    keys and values; the attention's output; the projections' block, the eight rows before it and the eight after it;
    the cotangent's block and its eight rows after; the convolution's taps. -/
structure Ins (F : FTy → Type) where
  sinks : Vec F S1x16 .f32
  q : Vec F S128x1024 .bf16
  kc : Vec F S128x512 .bf16
  kp : Vec F S128x512 .bf16
  vc : Vec F S128x512 .bf16
  vp : Vec F S128x512 .bf16
  a : Vec F S128x1024 .f32
  z : Vec F S128x6656 .f32
  zp : Vec F S8x6656 .f32
  zn : Vec F S8x6656 .f32
  dm : Vec F S128x2048 .f32
  dmn : Vec F S8x2048 .f32
  cw : Vec F S8x1024 .f32

theorem inb_cols {n w o m : ℕ} (h : o + m ≤ w) :
    ∀ a, (![0, o] : Fin 2 → ℕ) a + (⟨2, ![n, m]⟩ : Shape).size a ≤ (⟨2, ![n, w]⟩ : Shape).size a :=
  Fin.forall_fin_two.mpr ⟨le_of_eq (Nat.zero_add n), h⟩

theorem inb_rows {n w o m : ℕ} (h : o + m ≤ n) :
    ∀ a, (![o, 0] : Fin 2 → ℕ) a + (⟨2, ![m, w]⟩ : Shape).size a ≤ (⟨2, ![n, w]⟩ : Shape).size a :=
  Fin.forall_fin_two.mpr ⟨h, le_of_eq (Nat.zero_add w)⟩

/-- The `m` columns of `x` from column `o` on. -/
def cols {e : EltTy} {n w : ℕ} (m o : ℕ) (h : o + m ≤ w) (x : Vec F ⟨2, ![n, w]⟩ e) : Vec F ⟨2, ![n, m]⟩ e :=
  View.ld x (Rect.unit ![0, o] (⟨2, ![n, m]⟩ : Shape).size (inb_cols h))

/-- The `m` rows of `x` from row `o` on. -/
def rows {e : EltTy} {n w : ℕ} (m o : ℕ) (h : o + m ≤ n) (x : Vec F ⟨2, ![n, w]⟩ e) : Vec F ⟨2, ![m, w]⟩ e :=
  View.ld x (Rect.unit ![o, 0] (⟨2, ![m, w]⟩ : Shape).size (inb_rows h))

theorem inb_cell {o : ℕ} (h : o + 1 ≤ 16) : ∀ a, (![0, o] : Fin 2 → ℕ) a + S1x1.size a ≤ S1x16.size a :=
  Fin.forall_fin_two.mpr ⟨Nat.le_refl 1, h⟩

section Heads

variable (i : grid0.Coords) (X : Ins F) (j : Fin 4)

/-! ## One KV head -/

/-- The head's two key blocks, the previous one first. -/
def keys : FVec F S256x128 .bf16 :=
  k0_pay8 (cols 128 (128 * j) (by omega) X.kp) (cols 128 (128 * j) (by omega) X.kc)
/-- The head's two value blocks, the previous one first. -/
def vals : FVec F S256x128 .bf16 :=
  k0_pay8 (cols 128 (128 * j) (by omega) X.vp) (cols 128 (128 * j) (by omega) X.vc)
/-- The queries of the head's four query heads, one under the other, each in its own 64 of the 128 columns. -/
def queries : FVec F S512x128 .bf16 :=
  k0_pay20 (cols 128 (256 * j) (by omega) X.q) (cols 128 (256 * j + 128) (by omega) X.q)
/-- The gates of query heads `4j, 4j+1` (`p = 0`) and `4j+2, 4j+3` (`p = 1`). -/
def gate (p : Fin 2) : Vec F S128x128 .f32 := cols 128 (1536 + 256 * j + 128 * p) (by omega) X.z
/-- The cotangent of the same heads, -/
def cot (p : Fin 2) : Vec F S128x128 .f32 := cols 128 (256 * j + 128 * p) (by omega) X.dm
/-- and their attention outputs. -/
def att (p : Fin 2) : Vec F S128x128 .f32 := cols 128 (256 * j + 128 * p) (by omega) X.a
/-- The cotangent of the attention's output: the cotangent times silu of the gate. -/
def dAtt (p : Fin 2) : FVec F S128x128 .f32 := k0_pay11 (gate X j p) (cot X j p)
/-- The gradient of the gate. -/
def dGate (p : Fin 2) : FVec F S128x128 .bf16 := k0_pay12 (gate X j p) (cot X j p) (att X j p)
/-- A query head's sink. -/
def sink (r : Fin 4) : Elt F .f32 :=
  View.ld X.sinks (Rect.unit ![0, 4 * j + r] S1x1.size (inb_cell (by omega))) (Shape.Idx.first (show 0 < S1x1.numel by decide))
def zero : F .f32 := Scalar.ofBits .f32 0x00000000#32

/-- The sinks as a column over the 512 rows, -/
def sinkCol : FVec F S512x1 .f32 := k0_pay22 k0_pay21 zero (sink X j 0) (sink X j 1) (sink X j 2) (sink X j 3)
/-- the masked scores, -/
def scores : FVec F S512x256 .f32 := k0_pay23 (k0_pay2 i) (keys X j) (queries X j)
/-- their row maxima (the sink among them), -/
def peaks : FVec F S512x1 .f32 :=
  k0_pay24 (k0_pay2 i) (keys X j) (queries X j) k0_pay21 zero (sink X j 0) (sink X j 1) (sink X j 2) (sink X j 3)
/-- the row sums of the weights (the sink's among them) -/
def totals : FVec F S512x1 .f32 :=
  k0_pay26 (k0_pay2 i) (keys X j) (queries X j) k0_pay21 zero (sink X j 0) (sink X j 1) (sink X j 2) (sink X j 3)
/-- and the probabilities. -/
def probs : FVec F S512x256 .f32 :=
  k0_pay27 (k0_pay2 i) (keys X j) (queries X j) k0_pay21 zero (sink X j 0) (sink X j 1) (sink X j 2) (sink X j 3)
/-- The row sums of cotangent times output. -/
def deltas : FVec F S512x1 .f32 := k0_pay30 (k0_pay10 (att X j 0)) (dAtt X j 0) (k0_pay10 (att X j 1)) (dAtt X j 1) k0_pay28

def dqLow : FVec F S128x128 .f32 := k0_pay35 (keys X j) (vals X j) (k0_pay10 (att X j 0)) (dAtt X j 0) (k0_pay10 (att X j 1)) (dAtt X j 1) (probs i X j) k0_pay28
def dqHigh : FVec F S128x128 .f32 := k0_pay36 (keys X j) (vals X j) (k0_pay10 (att X j 0)) (dAtt X j 0) (k0_pay10 (att X j 1)) (dAtt X j 1) (probs i X j) k0_pay28
def dKeys : FVec F S256x128 .f32 := k0_pay37 (vals X j) (k0_pay10 (att X j 0)) (dAtt X j 0) (k0_pay10 (att X j 1)) (dAtt X j 1) (queries X j) (probs i X j) k0_pay28
def dVals : FVec F S256x128 .f32 := k0_pay38 (dAtt X j 0) (dAtt X j 1) (probs i X j) k0_pay28
def dkc : FVec F S128x128 .f32 := k0_pay40 (dKeys i X j)
def dkp : FVec F S128x128 .f32 := k0_pay39 (vals X j) (k0_pay10 (att X j 0)) (dAtt X j 0) (k0_pay10 (att X j 1)) (dAtt X j 1) (queries X j) (probs i X j) k0_pay28
def dvc : FVec F S128x128 .f32 := k0_pay42 (dVals i X j)
def dvp : FVec F S128x128 .f32 := k0_pay41 (dVals i X j)
/-- Every row's part of its sink's gradient, its sign aside. -/
def sinkTerms : FVec F S512x1 .f32 := k0_pay43 (sinkCol X j) (peaks i X j) (totals i X j) (deltas X j)
/-- A row of sink gradients less those of the head's four query heads. -/
def lessSinks (r : FVec F S1x1024 .f32) : FVec F S1x1024 .f32 :=
  let s := fun (h : Fin 4) (r : FVec F S1x1024 .f32) =>
    subf r (select (cmpi .eq (iota .tc S1x1024 32 [1] iota_S1x1024_d1_w32) (broadcast S1x1024 (BitVec.ofNat 32 (4 * j + h))))
      (broadcastTo S1x1024 (shapeCast S1x1 (shapeCast S1x1 (multiReduction .add [0] S1
        (select (cmpi .eq k0_pay21 (broadcast S512x1 (BitVec.ofNat 32 h))) (sinkTerms i X j) (broadcast S512x1 zero))
        0x00000000#32 reduces_S512x1_S1 (.inl rfl) rfl) shapeCasts_S1_S1x1) shapeCasts_S1x1_S1x1) broadcasts_S1x1_S1x1024)
      (broadcast S1x1024 zero))
  s 3 (s 2 (s 1 (s 0 r)))

end Heads

section Points

variable (i : grid0.Coords) (X : Ins F)

/-- The block's sink gradients. -/
def sinkRow : FVec F S1x1024 .f32 := lessSinks i X 3 (lessSinks i X 2 (lessSinks i X 1 (lessSinks i X 0 k0_pay5)))

/-! ## The gated convolution -/

/-- The convolution's input, -/
def conv : FVec F S128x1024 .f32 := k0_pay176 (cols 1024 3584 (by omega) X.z) (cols 1024 4608 (by omega) X.z)
/-- and with the eight rows before the block over it. -/
def convTall : List (View.Piece (Elt F) S144x1024 .f32) :=
  [⟨Rect.unit ![8, 0] S128x1024.size (inb_rows (by omega)), k0_pay178 (conv X)⟩,
   ⟨Rect.unit ![0, 0] S8x1024.size (inb_rows (by omega)),
    k0_pay177 (BitVec.ofNat 32 (i 0).val) (cols 1024 3584 (by omega) X.zp) (cols 1024 4608 (by omega) X.zp)⟩]
/-- The convolution's input `n` rows earlier. -/
def back (n : Fin 8) : Vec F S128x1024 .f32 := rows 128 (8 - n) (by omega) (View.canon (convTall i X))
/-- The three taps. -/
def tap (n : Fin 3) : Vec F S1x1024 .f32 := rows 1 n (by omega) X.cw
/-- The cotangent of the convolution's output, -/
def dConv : FVec F S128x1024 .f32 := k0_pay182 (cols 1024 2560 (by omega) X.z) (cols 1024 5632 (by omega) X.z) (cols 1024 1024 (by omega) X.dm)
/-- with the eight rows after the block under it (over rows of no interest). -/
def dConvTall : List (View.Piece (Elt F) S144x1024 .f32) :=
  ⟨Rect.unit ![128, 0] S8x1024.size (inb_rows (by omega)),
    k0_pay188 (BitVec.ofNat 32 (i 0).val) (cols 1024 5632 (by omega) X.zn) (cols 1024 1024 (by omega) X.dmn) (cols 1024 2560 (by omega) X.zn)⟩ ::
  ⟨Rect.unit ![0, 0] S128x1024.size (inb_rows (by omega)), k0_pay187 (dConv X)⟩ :: convTall i X
/-- The cotangent of the convolution's output `n` rows later. -/
def ahead (n : Fin 8) : Vec F S128x1024 .f32 := rows 128 n (by omega) (View.canon (dConvTall i X))
/-! ## The blocks of the results -/

def dqPieces : List (View.Piece (Elt F) S128x1024 .f32) :=
  [⟨Rect.unit ![0, 896] S128x128.size inb_S128x1024_S128x128_0_896, dqHigh i X 3⟩,
   ⟨Rect.unit ![0, 768] S128x128.size inb_S128x1024_S128x128_0_768, dqLow i X 3⟩,
   ⟨Rect.unit ![0, 640] S128x128.size inb_S128x1024_S128x128_0_640, dqHigh i X 2⟩,
   ⟨Rect.unit ![0, 512] S128x128.size inb_S128x1024_S128x128_0_512, dqLow i X 2⟩,
   ⟨Rect.unit ![0, 384] S128x128.size inb_S128x1024_S128x128_0_384, dqHigh i X 1⟩,
   ⟨Rect.unit ![0, 256] S128x128.size inb_S128x1024_S128x128_0_256, dqLow i X 1⟩,
   ⟨Rect.unit ![0, 128] S128x128.size inb_S128x1024_S128x128_0_128, dqHigh i X 0⟩,
   ⟨Rect.unit ![0, 0] S128x128.size inb_S128x1024_S128x128_0_0, dqLow i X 0⟩]
/-- Four stores side by side. -/
def four (f : Fin 4 → FVec F S128x128 .f32) : List (View.Piece (Elt F) S128x512 .f32) :=
  [⟨Rect.unit ![0, 384] S128x128.size (inb_cols (by omega)), f 3⟩, ⟨Rect.unit ![0, 256] S128x128.size (inb_cols (by omega)), f 2⟩,
   ⟨Rect.unit ![0, 128] S128x128.size (inb_cols (by omega)), f 1⟩, ⟨Rect.unit ![0, 0] S128x128.size (inb_cols (by omega)), f 0⟩]
/-- The stores of the projections' gradient, the convolution's input one and two rows earlier being `b₁`, `b₂` and the
    cotangent of its output one and two rows later `f₁`, `f₂`. -/
def dzPieces (b₁ b₂ f₁ f₂ : Vec F S128x1024 .f32) : List (View.Piece (Elt F) S128x6656 .bf16) :=
  [⟨Rect.unit ![0, 4608] S128x1024.size (inb_cols (by omega)),
     k0_pay193 (k0_pay189 (dConv X) (tap X 2) (tap X 1) f₁) (k0_pay190 (tap X 0)) f₂ (cols 1024 3584 (by omega) X.z)⟩,
   ⟨Rect.unit ![0, 3584] S128x1024.size (inb_cols (by omega)),
     k0_pay192 (k0_pay189 (dConv X) (tap X 2) (tap X 1) f₁) (k0_pay190 (tap X 0)) f₂ (cols 1024 4608 (by omega) X.z)⟩,
   ⟨Rect.unit ![0, 5632] S128x1024.size (inb_cols (by omega)),
     k0_pay186 (k0_pay180 (cols 1024 5632 (by omega) X.z))
       (k0_pay184 (conv X) b₁ b₂ (tap X 0) (tap X 1) (tap X 2) (cols 1024 2560 (by omega) X.z) (cols 1024 1024 (by omega) X.dm))
       (k0_pay185 (cols 1024 5632 (by omega) X.z))⟩,
   ⟨Rect.unit ![0, 2560] S128x1024.size (inb_cols (by omega)),
     k0_pay183 (conv X) b₁ b₂ (tap X 0) (tap X 1) (tap X 2) (cols 1024 5632 (by omega) X.z) (cols 1024 1024 (by omega) X.dm)⟩,
   ⟨Rect.unit ![0, 2432] S128x128.size (inb_cols (by omega)), dGate X 3 1⟩,
   ⟨Rect.unit ![0, 2304] S128x128.size (inb_cols (by omega)), dGate X 3 0⟩,
   ⟨Rect.unit ![0, 2176] S128x128.size (inb_cols (by omega)), dGate X 2 1⟩,
   ⟨Rect.unit ![0, 2048] S128x128.size (inb_cols (by omega)), dGate X 2 0⟩,
   ⟨Rect.unit ![0, 1920] S128x128.size (inb_cols (by omega)), dGate X 1 1⟩,
   ⟨Rect.unit ![0, 1792] S128x128.size (inb_cols (by omega)), dGate X 1 0⟩,
   ⟨Rect.unit ![0, 1664] S128x128.size (inb_cols (by omega)), dGate X 0 1⟩,
   ⟨Rect.unit ![0, 1536] S128x128.size (inb_cols (by omega)), dGate X 0 0⟩,
   ⟨Rect.unit ![0, 0] S128x1536.size (inb_cols (by omega)), k0_pay4⟩]

def dqBlock : Vec F S128x1024 .f32 := View.canon (dqPieces i X)
def dkcBlock : Vec F S128x512 .f32 := View.canon (four (dkc i X))
def dkpBlock : Vec F S128x512 .f32 := View.canon (four (dkp i X))
def dvcBlock : Vec F S128x512 .f32 := View.canon (four (dvc i X))
def dvpBlock : Vec F S128x512 .f32 := View.canon (four (dvp i X))
def dzBlock : Vec F S128x6656 .bf16 := View.canon (dzPieces X (back i X 1) (back i X 2) (ahead i X 1) (ahead i X 2))
def dztBlock : Vec F S6656x128 .bf16 := k0_pay1 (dzBlock i X)
/-- The stores of the small gradients, the rows they are added to being `l₀` to `l₃`: row 0 the sinks', rows 1 to 3 the taps'. -/
def accPieces (b₁ b₂ : Vec F S128x1024 .f32) (l₀ l₁ l₂ l₃ : Vec F S1x1024 .f32) : List (View.Piece (Elt F) S8x1024 .f32) :=
  [⟨Rect.unit ![3, 0] S1x1024.size (inb_rows (by omega)), k0_pay196 (conv X) (dConv X) l₃⟩,
   ⟨Rect.unit ![2, 0] S1x1024.size (inb_rows (by omega)), k0_pay195 b₁ (dConv X) l₂⟩,
   ⟨Rect.unit ![1, 0] S1x1024.size (inb_rows (by omega)), k0_pay194 b₂ (dConv X) l₁⟩,
   ⟨Rect.unit ![0, 0] S1x1024.size (inb_rows (by omega)), addf (shapeCast S1x1024 l₀ shapeCasts_S1x1024_S1x1024) (sinkRow i X)⟩]
/-- What the stores `L` (the last first) leave of a block that held `o`. -/
def over {s : Shape} {e : EltTy} (o : Vec F s e) : List (View.Piece (Elt F) s e) → Vec F s e
  | [] => o
  | p :: L => p.1.overlay (over o L) p.2
/-- The small gradients after the block, those before it being `o`. -/
def accBlock (o : Vec F S8x1024 .f32) : Vec F S8x1024 .f32 :=
  over o (accPieces i X (back i X 1) (back i X 2) (rows 1 0 (by omega) o) (rows 1 1 (by omega) o) (rows 1 2 (by omega) o) (rows 1 3 (by omega) o))

end Points

end Cert.KernelIdeal.Bwd

end
-- ==== Proof.Contents.lean ====
/- What the kernel body's stores leave of the blocks of its results, whatever the buffers held before: the stores of
   seven results cover their blocks; those of the small gradients cover four rows and leave the others. -/
module

public import proofs.«01_k».proof.Proof.Blocks
public import Idealize.ShloMosaic.Lib.Ring
public import Idealize.ShloMosaic.Lib.Tactic
public import Idealize.ShloMosaic.Lib.Claim

@[expose] public section

set_option maxRecDepth 16384

noncomputable section

namespace Cert.KernelIdeal.Bwd

open Cert.KernelIdeal Cert.KernelIdeal.Gen Idealize.ShloMosaic Idealize.ShloMosaic.Tactic Idealize.SL.Sem

variable {F : FTy → Type} [FloatOps F] [Named F]

/-! ## Stores over prior contents -/

section Over

variable {sg : RefSig} {κ : Kind} {sp : Space} {s : Shape} {e : EltTy}

theorem read_writes_over (v : View sg κ sp s e) (f : v.ty.Contents (Elt F)) :
    ∀ L : List (View.Piece (Elt F) s e), v.read (Elt F) (v.writes (Elt F) f L) = over (v.read (Elt F) f) L
  | [] => rfl
  | ⟨r, w⟩ :: L => by
    funext y
    show _ = r.overlay (over (v.read (Elt F) f) L) w y
    by_cases hy : y ∈ r.set
    · obtain ⟨x, rfl⟩ : ∃ x, r.emb x = y := r.exists_idx_of_mem hy
      rw [View.read_writes_cons_emb, r.overlay_emb]
    · have hy' : y ∉ Finset.univ.map r.emb := by rwa [Rect.map_emb_univ]
      rw [View.writes_cons, View.read_slice_write_of_not_mem r _ _ _ hy', r.overlay_of_not_mem _ _ hy, read_writes_over v f L]

theorem over_append (o : Vec F s e) (L' : List (View.Piece (Elt F) s e)) :
    ∀ L : List (View.Piece (Elt F) s e), over o (L ++ L') = over (over o L') L
  | [] => rfl
  | p :: L => congrArg (fun f => p.1.overlay f p.2) (over_append o L' L)

theorem canon_eq_over : ∀ L : List (View.Piece (Elt F) s e), View.canon L = over (fun _ => Classical.arbitrary _) L
  | [] => rfl
  | p :: L => congrArg (fun f => p.1.overlay f p.2) (canon_eq_over L)

theorem over_whole {off : Fin s.rank → ℕ} (h : off = fun _ => 0) (inb : ∀ a, off a + s.size a ≤ s.size a) (o w : Vec F s e) :
    over o [(⟨Rect.unit off s.size inb, w⟩ : View.Piece (Elt F) s e)] = w := by
  subst h
  funext y
  have e := (Rect.whole s).overlay_emb o w y
  rw [Rect.emb_whole_apply] at e
  exact e

/-- A load that a store does not touch reads as before it. -/
theorem ld_over_of_disjoint (r r' : Rect s) (h : ∀ x, r'.idx x ∉ r.set) (o : Vec F s e) (w : Vec F r.shape e)
    (L : List (View.Piece (Elt F) s e)) :
    View.ld (over o (⟨r, w⟩ :: L)) r' = View.ld (over o L) r' :=
  funext fun x => r.overlay_of_not_mem _ _ (h x)

end Over

/-- A row that a store does not touch reads as before it. -/
theorem rows_over_ne {k n : ℕ} (hk : k + 1 ≤ 8) (hn : n + 1 ≤ 8) (h : k ≠ n) (o : Vec F S8x1024 .f32)
    (inb : ∀ a, (![k, 0] : Fin 2 → ℕ) a + S1x1024.size a ≤ S8x1024.size a) (w : Vec F S1x1024 .f32)
    (L : List (View.Piece (Elt F) S8x1024 .f32)) :
    rows 1 n hn (over o (⟨Rect.unit ![k, 0] S1x1024.size inb, w⟩ :: L)) = rows 1 n hn (over o L) := by
  have hd : ∀ x, (Rect.unit (s := S8x1024) ![n, 0] S1x1024.size (inb_rows hn)).idx x ∉ (Rect.unit (s := S8x1024) ![k, 0] S1x1024.size inb).set := by
    intro x hm
    have h0 : k ≤ n + 1 * (x 0).val ∧ n + 1 * (x 0).val < k + 1 := (Rect.mem_set_unit.mp hm) 0
    have h1 : (x 0).val < 1 := (x 0).isLt
    omega
  have key := ld_over_of_disjoint (F := F) (e := .f32) (Rect.unit (s := S8x1024) ![k, 0] S1x1024.size inb)
    (Rect.unit (s := S8x1024) ![n, 0] S1x1024.size (inb_rows hn)) hd o w L
  unfold rows
  exact key

/-! ## The results -/

variable (i : grid0.Coords) (X : Ins F) {sg : RefSig} {κ : Kind} {sp : Space}

theorem read_dq (v : View sg κ sp S128x1024 .f32) (f : v.ty.Contents (Elt F)) :
    v.read (Elt F) (v.writes (Elt F) f (dqPieces i X)) = dqBlock i X :=
  View.read_writes_eq_canon v f _ fun y => View.cover_of_tiledL (dqPieces i X) S128x128.size (by sl_kernel_rfl) y

theorem read_four (v : View sg κ sp S128x512 .f32) (f : v.ty.Contents (Elt F)) (g : Fin 4 → FVec F S128x128 .f32) :
    v.read (Elt F) (v.writes (Elt F) f (four g)) = View.canon (four g) :=
  View.read_writes_eq_canon v f _ fun y => View.cover_of_tiledL (four g) S128x128.size (by sl_kernel_rfl) y

theorem cover_dz (b₁ b₂ f₁ f₂ : Vec F S128x1024 .f32) (y : S128x6656.Idx) : ∃ p ∈ dzPieces X b₁ b₂ f₁ f₂, y ∈ p.1.set :=
  View.cover_of_tiledBy (dzPieces X b₁ b₂ f₁ f₂) ![128, 128] (by sl_kernel_rfl) y

theorem read_dz (v : View sg κ sp S128x6656 .bf16) (f : v.ty.Contents (Elt F)) :
    v.read (Elt F) (v.writes (Elt F) f (dzPieces X (back i X 1) (back i X 2) (ahead i X 1) (ahead i X 2))) = dzBlock i X :=
  View.read_writes_eq_canon v f _ (cover_dz X _ _ _ _)

theorem read_dzt (v : View sg κ sp S6656x128 .bf16) (f : v.ty.Contents (Elt F)) (w : Vec F S6656x128 .bf16) :
    v.read (Elt F) (v.writes (Elt F) f [⟨Rect.unit ![0, 0] S6656x128.size inb_S6656x128_S6656x128_0_0, w⟩]) = w := by
  rw [read_writes_over]
  exact over_whole (funext fun a => by fin_cases a <;> rfl) inb_S6656x128_S6656x128_0_0 _ w

/-- The transposed block is read back from what the block's stores left. -/
theorem cov_dz (v : View sg κ sp S128x6656 .bf16) :
    k0_pay1 (v.readCov (dzPieces X (back i X 1) (back i X 2) (ahead i X 1) (ahead i X 2))
      (Rect.unit ![0, 0] S128x6656.size inb_S128x6656_S128x6656_0_0).toLoadRect) = dztBlock i X := by
  rw [View.readCov_eq_canon']
  exact congrArg k0_pay1 (View.ld_unit_zero (funext fun a => by fin_cases a <;> rfl) inb_S128x6656_S128x6656_0_0 _)

theorem cov_ld {s : Shape} {e : EltTy} (v : View sg κ sp s e) (L : List (View.Piece (Elt F) s e)) (r : Rect s) :
    v.readCov L r.toLoadRect = View.ld (View.canon L) r :=
  View.readCov_eq_canon' v _ _

/-- A row read back from stores over whole contents `w`. -/
theorem cov_rows (v : View sg κ sp S8x1024 .f32) {n : ℕ} (hn : n + 1 ≤ 8) (inb) (L : List (View.Piece (Elt F) S8x1024 .f32)) (w : Vec F S8x1024 .f32) :
    v.readCov (L ++ [⟨Rect.unit ![0, 0] S8x1024.size inb_S8x1024_S8x1024_0_0, w⟩]) (Rect.unit (s := S8x1024) ![n, 0] S1x1024.size inb).toLoadRect
      = rows 1 n hn (over w L) := by
  rw [View.readCov_eq_canon', canon_eq_over, over_append, over_whole (funext fun a => by fin_cases a <;> rfl)]
  rfl

/-- The same, the stores over the cleared block being those of rows other than `n`. -/
theorem cov_row (v : View sg κ sp S8x1024 .f32) {n : ℕ} (hn : n + 1 ≤ 8) (inb) (L : List (View.Piece (Elt F) S8x1024 .f32))
    (w : Vec F S8x1024 .f32) (h : rows 1 n hn (over w L) = rows 1 n hn w) :
    v.readCov (L ++ [⟨Rect.unit ![0, 0] S8x1024.size inb_S8x1024_S8x1024_0_0, w⟩]) (Rect.unit (s := S8x1024) ![n, 0] S1x1024.size inb).toLoadRect
      = rows 1 n hn w := (cov_rows v hn inb L w).trans h

section
variable (v : View sg κ sp S8x1024 .f32) (w : Vec F S8x1024 .f32) (w₀ w₁ w₂ : Vec F S1x1024 .f32)

theorem cov_row0 : v.readCov [⟨Rect.unit ![0, 0] S8x1024.size inb_S8x1024_S8x1024_0_0, w⟩]
    (Rect.unit (s := S8x1024) ![0, 0] S1x1024.size inb_S8x1024_S1x1024_0_0).toLoadRect = rows 1 0 (by omega) w :=
  cov_row v (by omega) _ [] w rfl
theorem cov_row1 : v.readCov [⟨Rect.unit ![0, 0] S1x1024.size inb_S8x1024_S1x1024_0_0, w₀⟩, ⟨Rect.unit ![0, 0] S8x1024.size inb_S8x1024_S8x1024_0_0, w⟩]
    (Rect.unit (s := S8x1024) ![1, 0] S1x1024.size inb_S8x1024_S1x1024_1_0).toLoadRect = rows 1 1 (by omega) w :=
  cov_row v (by omega) _ [⟨Rect.unit ![0, 0] S1x1024.size inb_S8x1024_S1x1024_0_0, w₀⟩] w (by
    rw [rows_over_ne (by omega) _ (by omega)]; rfl)
theorem cov_row2 : v.readCov [⟨Rect.unit ![1, 0] S1x1024.size inb_S8x1024_S1x1024_1_0, w₁⟩, ⟨Rect.unit ![0, 0] S1x1024.size inb_S8x1024_S1x1024_0_0, w₀⟩,
      ⟨Rect.unit ![0, 0] S8x1024.size inb_S8x1024_S8x1024_0_0, w⟩]
    (Rect.unit (s := S8x1024) ![2, 0] S1x1024.size inb_S8x1024_S1x1024_2_0).toLoadRect = rows 1 2 (by omega) w :=
  cov_row v (by omega) _ [⟨Rect.unit ![1, 0] S1x1024.size inb_S8x1024_S1x1024_1_0, w₁⟩, ⟨Rect.unit ![0, 0] S1x1024.size inb_S8x1024_S1x1024_0_0, w₀⟩] w (by
    rw [rows_over_ne (by omega) _ (by omega), rows_over_ne (by omega) _ (by omega)]; rfl)
theorem cov_row3 : v.readCov [⟨Rect.unit ![2, 0] S1x1024.size inb_S8x1024_S1x1024_2_0, w₂⟩, ⟨Rect.unit ![1, 0] S1x1024.size inb_S8x1024_S1x1024_1_0, w₁⟩,
      ⟨Rect.unit ![0, 0] S1x1024.size inb_S8x1024_S1x1024_0_0, w₀⟩, ⟨Rect.unit ![0, 0] S8x1024.size inb_S8x1024_S8x1024_0_0, w⟩]
    (Rect.unit (s := S8x1024) ![3, 0] S1x1024.size inb_S8x1024_S1x1024_3_0).toLoadRect = rows 1 3 (by omega) w :=
  cov_row v (by omega) _ [⟨Rect.unit ![2, 0] S1x1024.size inb_S8x1024_S1x1024_2_0, w₂⟩, ⟨Rect.unit ![1, 0] S1x1024.size inb_S8x1024_S1x1024_1_0, w₁⟩,
      ⟨Rect.unit ![0, 0] S1x1024.size inb_S8x1024_S1x1024_0_0, w₀⟩] w (by
    rw [rows_over_ne (by omega) _ (by omega), rows_over_ne (by omega) _ (by omega), rows_over_ne (by omega) _ (by omega)]; rfl)

end

/-- The small gradients after the block, every row added to the row before. -/
theorem acc_over (i : grid0.Coords) (X X' : Ins F) (hX : X' = X) (w : Vec F S8x1024 .f32) (b₁ b₂ : Vec F S128x1024 .f32) (l₀ l₁ l₂ l₃ : Vec F S1x1024 .f32)
    (hb₁ : b₁ = back i X' 1) (hb₂ : b₂ = back i X' 2)
    (h₀ : l₀ = rows 1 0 (by omega) w) (h₁ : l₁ = rows 1 1 (by omega) w) (h₂ : l₂ = rows 1 2 (by omega) w)
    (h₃ : l₃ = rows 1 3 (by omega) w) :
    over w (accPieces i X' b₁ b₂ l₀ l₁ l₂ l₃) = accBlock i X w := by
  subst hX; rw [h₀, h₁, h₂, h₃, hb₁, hb₂]; unfold accBlock; rfl

/-- The same where the block is cleared first. -/
theorem acc_cleared (v : View sg κ sp S8x1024 .f32) (f : v.ty.Contents (Elt F)) (w : Vec F S8x1024 .f32) (L : List (View.Piece (Elt F) S8x1024 .f32)) :
    v.read (Elt F) (v.writes (Elt F) f (L ++ [⟨Rect.unit ![0, 0] S8x1024.size inb_S8x1024_S8x1024_0_0, w⟩])) = over w L := by
  rw [read_writes_over, over_append, over_whole (funext fun a => by fin_cases a <;> rfl)]

end Cert.KernelIdeal.Bwd

end
-- ==== Proof.Pieces.lean ====
/- The stores that the runs of the kernel body found are the blocks' stores: every load is a part of an input block, every
   load of the scratch and of the results a part of what was stored there. -/
module

public import proofs.«01_k».proof.Proof.RunLater
public import proofs.«01_k».proof.Proof.Blocks
public import proofs.«01_k».proof.Proof.Contents

@[expose] public section

set_option maxRecDepth 16384

noncomputable section

namespace Cert.KernelIdeal.Bwd

open Cert.KernelIdeal Cert.KernelIdeal.Gen Idealize.ShloMosaic Idealize.ShloMosaic.Tactic Idealize.SL.Sem

variable {F : FTy → Type} [FloatOps F] [Named F]

variable (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x1024 .f32) (harg7 : arg7.IsWhole) (arg8 : Memref sig .tc .vmem S128x6656 .f32) (harg8 : arg8.IsWhole) (arg9 : Memref sig .tc .vmem S8x6656 .f32) (harg9 : arg9.IsWhole) (arg10 : Memref sig .tc .vmem S8x6656 .f32) (harg10 : arg10.IsWhole) (arg11 : Memref sig .tc .vmem S128x2048 .f32) (harg11 : arg11.IsWhole) (arg12 : Memref sig .tc .vmem S8x2048 .f32) (harg12 : arg12.IsWhole) (arg13 : Memref sig .tc .vmem S8x1024 .f32) (harg13 : arg13.IsWhole) (arg15 : Memref sig .tc .vmem S128x1024 .f32) (harg15 : arg15.IsWhole) (arg16 : Memref sig .tc .vmem S128x512 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x6656 .bf16) (harg20 : arg20.IsWhole) (arg21 : Memref sig .tc .vmem S6656x128 .bf16) (harg21 : arg21.IsWhole) (arg22 : Memref sig .tc .vmem S8x1024 .f32) (harg22 : arg22.IsWhole) (arg23 : Memref sig .tc .vmem S144x1024 .f32) (harg23 : arg23.IsWhole)
  (x0 : Vec F S1x16 .f32) (x1 : Vec F S128x1024 .bf16) (x2 : Vec F S128x512 .bf16) (x3 : Vec F S128x512 .bf16) (x4 : Vec F S128x512 .bf16) (x5 : Vec F S128x512 .bf16) (x6 : Vec F S128x1024 .f32) (x7 : Vec F S128x6656 .f32) (x8 : Vec F S8x6656 .f32) (x9 : Vec F S8x6656 .f32) (x10 : Vec F S128x2048 .f32) (x11 : Vec F S8x2048 .f32) (x12 : Vec F S8x1024 .f32)

/-- The blocks as the loads read them, -/
def seen : Ins F := ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6), arg8.view.read (Elt F) (harg8.unread x7), arg9.view.read (Elt F) (harg9.unread x8), arg10.view.read (Elt F) (harg10.unread x9), arg11.view.read (Elt F) (harg11.unread x10), arg12.view.read (Elt F) (harg12.unread x11), arg13.view.read (Elt F) (harg13.unread x12)⟩

/-- which are the blocks. -/
theorem seen_eq : seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 = ⟨x0, x1, x2, x3, x4, x5, x6, x7, x8, x9, x10, x11, x12⟩ := by
  unfold seen
  rw [harg1.read_unread, harg2.read_unread, harg3.read_unread, harg4.read_unread, harg5.read_unread, harg6.read_unread, harg7.read_unread, harg8.read_unread, harg9.read_unread, harg10.read_unread, harg11.read_unread, harg12.read_unread, harg13.read_unread]

theorem dq_first (hc0 : cond0_0 i) :
    (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).1 = dqPieces i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) := by sl_kernel_rfl

theorem dkc_first (hc0 : cond0_0 i) :
    (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.1 = four (dkc i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

theorem dkp_first (hc0 : cond0_0 i) :
    (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.2.1 = four (dkp i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

theorem dvc_first (hc0 : cond0_0 i) :
    (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.2.2.1 = four (dvc i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

theorem dvp_first (hc0 : cond0_0 i) :
    (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.2.2.2.1 = four (dvp i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

theorem dq_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).1 = dqPieces i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) := by sl_kernel_rfl

theorem dkc_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.1 = four (dkc i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

theorem dkp_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.2.1 = four (dkp i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

theorem dvc_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.2.2.1 = four (dvc i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

theorem dvp_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.2.2.2.1 = four (dvp i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) := by sl_kernel_rfl

/-- What the loads of the scratch read. -/
def b1 : Vec F S128x1024 .f32 := (arg23.view.readCov (convTall i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) (Rect.unit (s := S144x1024) ![7, 0] S128x1024.size inb_S144x1024_S128x1024_7_0).toLoadRect)
def b2 : Vec F S128x1024 .f32 := (arg23.view.readCov (convTall i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) (Rect.unit (s := S144x1024) ![6, 0] S128x1024.size inb_S144x1024_S128x1024_6_0).toLoadRect)
def f1 : Vec F S128x1024 .f32 := (arg23.view.readCov (dConvTall i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) (Rect.unit (s := S144x1024) ![1, 0] S128x1024.size inb_S144x1024_S128x1024_1_0).toLoadRect)
def f2 : Vec F S128x1024 .f32 := (arg23.view.readCov (dConvTall i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) (Rect.unit (s := S144x1024) ![2, 0] S128x1024.size inb_S144x1024_S128x1024_2_0).toLoadRect)

theorem dz_first (hc0 : cond0_0 i) :
    (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.1 = (dzPieces (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12)) := by sl_kernel_rfl

theorem dzt_first (hc0 : cond0_0 i) :
    (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.1 = [⟨Rect.unit ![0, 0] S6656x128.size inb_S6656x128_S6656x128_0_0, k0_pay1 (arg20.view.readCov (dzPieces (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12)) (Rect.unit ![0, 0] S128x6656.size inb_S128x6656_S128x6656_0_0).toLoadRect)⟩] := by sl_kernel_rfl

theorem acc_first (hc0 : cond0_0 i) :
    ∃ l₀ l₁ l₂ l₃, (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.1 = accPieces i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) l₀ l₁ l₂ l₃ ++ [⟨Rect.unit ![0, 0] S8x1024.size inb_S8x1024_S8x1024_0_0, k0_pay3⟩]
      ∧ l₀ = (arg22.view.readCov [(⟨Rect.unit ![0, 0] S8x1024.size inb_S8x1024_S8x1024_0_0, k0_pay3⟩ : View.Piece (Elt F) S8x1024 .f32)] (Rect.unit (s := S8x1024) ![0, 0] S1x1024.size inb_S8x1024_S1x1024_0_0).toLoadRect)
      ∧ l₁ = (arg22.view.readCov [(⟨Rect.unit ![0, 0] S1x1024.size inb_S8x1024_S1x1024_0_0, addf (shapeCast S1x1024 l₀ shapeCasts_S1x1024_S1x1024) (sinkRow i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12))⟩ : View.Piece (Elt F) S8x1024 .f32), (⟨Rect.unit ![0, 0] S8x1024.size inb_S8x1024_S8x1024_0_0, k0_pay3⟩ : View.Piece (Elt F) S8x1024 .f32)] (Rect.unit (s := S8x1024) ![1, 0] S1x1024.size inb_S8x1024_S1x1024_1_0).toLoadRect)
      ∧ l₂ = (arg22.view.readCov [(⟨Rect.unit ![1, 0] S1x1024.size inb_S8x1024_S1x1024_1_0, k0_pay194 (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (dConv (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) l₁⟩ : View.Piece (Elt F) S8x1024 .f32), (⟨Rect.unit ![0, 0] S1x1024.size inb_S8x1024_S1x1024_0_0, addf (shapeCast S1x1024 l₀ shapeCasts_S1x1024_S1x1024) (sinkRow i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12))⟩ : View.Piece (Elt F) S8x1024 .f32), (⟨Rect.unit ![0, 0] S8x1024.size inb_S8x1024_S8x1024_0_0, k0_pay3⟩ : View.Piece (Elt F) S8x1024 .f32)] (Rect.unit (s := S8x1024) ![2, 0] S1x1024.size inb_S8x1024_S1x1024_2_0).toLoadRect)
      ∧ l₃ = (arg22.view.readCov [(⟨Rect.unit ![2, 0] S1x1024.size inb_S8x1024_S1x1024_2_0, k0_pay195 (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (dConv (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) l₂⟩ : View.Piece (Elt F) S8x1024 .f32), (⟨Rect.unit ![1, 0] S1x1024.size inb_S8x1024_S1x1024_1_0, k0_pay194 (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (dConv (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) l₁⟩ : View.Piece (Elt F) S8x1024 .f32), (⟨Rect.unit ![0, 0] S1x1024.size inb_S8x1024_S1x1024_0_0, addf (shapeCast S1x1024 l₀ shapeCasts_S1x1024_S1x1024) (sinkRow i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12))⟩ : View.Piece (Elt F) S8x1024 .f32), (⟨Rect.unit ![0, 0] S8x1024.size inb_S8x1024_S8x1024_0_0, k0_pay3⟩ : View.Piece (Elt F) S8x1024 .f32)] (Rect.unit (s := S8x1024) ![3, 0] S1x1024.size inb_S8x1024_S1x1024_3_0).toLoadRect) := ⟨_, _, _, _, by sl_kernel_rfl, rfl, rfl, rfl, rfl⟩

theorem dz_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.2.2.2.2.1 = (dzPieces (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12)) := by sl_kernel_rfl

theorem dzt_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.2.2.2.2.2.1 = [⟨Rect.unit ![0, 0] S6656x128.size inb_S6656x128_S6656x128_0_0, k0_pay1 (arg20.view.readCov (dzPieces (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (f2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12)) (Rect.unit ![0, 0] S128x6656.size inb_S128x6656_S128x6656_0_0).toLoadRect)⟩] := by sl_kernel_rfl

theorem acc_later (hc0 : ¬cond0_0 i) (xo : Vec F S8x1024 .f32) :
    (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.2.2.2.2.2.2.1 = accPieces i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (rows 1 0 (by omega) (arg22.view.read (Elt F) (harg22.unread xo))) (rows 1 1 (by omega) (arg22.view.read (Elt F) (harg22.unread xo))) (rows 1 2 (by omega) (arg22.view.read (Elt F) (harg22.unread xo))) (rows 1 3 (by omega) (arg22.view.read (Elt F) (harg22.unread xo))) := by sl_kernel_rfl

theorem b1_eq : (b1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) = back i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) 1 := by
  unfold b1; rw [cov_ld]; sl_kernel_rfl

theorem b2_eq : (b2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) = back i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) 2 := by
  unfold b2; rw [cov_ld]; sl_kernel_rfl

theorem f1_eq : (f1 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) = ahead i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) 1 := by
  unfold f1; rw [cov_ld]; sl_kernel_rfl

theorem f2_eq : (f2 i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) = ahead i (seen arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) 2 := by
  unfold f2; rw [cov_ld]; sl_kernel_rfl

set_option maxHeartbeats 1000000 in
theorem acc_first_eq (hc0 : cond0_0 i) (f : arg22.view.ty.Contents (Elt F)) :
    arg22.view.read (Elt F) (arg22.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.1) = accBlock i ⟨x0, x1, x2, x3, x4, x5, x6, x7, x8, x9, x10, x11, x12⟩ k0_pay3 := by
  refine (acc_first c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 x0 x1 x2 x3 x4 x5 x6 x7 x8 x9 x10 x11 x12 hc0).elim fun l₀ h => h.elim fun l₁ h => h.elim fun l₂ h => h.elim fun l₃ h => ?_
  have e := h.1
  have h₀ := h.2.1
  have h₁ := h.2.2.1
  have h₂ := h.2.2.2.1
  have h₃ := h.2.2.2.2
  refine (congrArg (fun L => arg22.view.read (Elt F) (arg22.view.writes (Elt F) f L)) e).trans ((acc_cleared _ _ _ _).trans ?_)
  exact acc_over i _ _ (seen_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) _ _ _ _ _ _ _ (b1_eq i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2_eq i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12)
    (h₀.trans (cov_row0 _ _)) (h₁.trans (cov_row1 _ _ _)) (h₂.trans (cov_row2 _ _ _ _)) (h₃.trans (cov_row3 _ _ _ _ _))

set_option maxHeartbeats 1000000 in
theorem acc_later_eq (hc0 : ¬cond0_0 i) (xo : Vec F S8x1024 .f32) :
    arg22.view.read (Elt F) (arg22.view.writes (Elt F) (harg22.unread xo) (runLater c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 hc0 x0 x1 x2 x3 x4 x5 x6 x7 x8 x9 x10 x11 x12 xo).2.2.2.2.2.2.2.1) = accBlock i ⟨x0, x1, x2, x3, x4, x5, x6, x7, x8, x9, x10, x11, x12⟩ xo := by
  refine (congrArg (fun L => arg22.view.read (Elt F) (arg22.view.writes (Elt F) (harg22.unread xo) L)) (acc_later c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 arg19 harg19 arg20 harg20 arg21 harg21 arg22 harg22 arg23 harg23 x0 x1 x2 x3 x4 x5 x6 x7 x8 x9 x10 x11 x12 hc0 xo)).trans ((read_writes_over _ _ _).trans ?_)
  rw [harg22.read_unread]
  exact acc_over i _ _ (seen_eq arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) _ _ _ _ _ _ _ (b1_eq i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) (b2_eq i arg1 harg1 arg2 harg2 arg3 harg3 arg4 harg4 arg5 harg5 arg6 harg6 arg7 harg7 arg8 harg8 arg9 harg9 arg10 harg10 arg11 harg11 arg12 harg12 arg13 harg13 arg23 x0 x1 x2 x3 x4 x5 x6 x7 x8 x9 x10 x11 x12) rfl rfl rfl rfl

end Cert.KernelIdeal.Bwd

end
-- ==== Proof.Frame.lean ====
/- The run of the whole call: at every grid point the kernel body leaves in the results' staging buffers the blocks' functions
   of the input blocks, the small gradients being added to what the points before left; so every execution terminates,
   the argument arrays unchanged. -/
module

public import proofs.«01_k».proof.Proof.Pieces
public import proofs.«01_k».proof.Proof.Contents
public import Idealize.ShloMosaic.Lib.Claim

@[expose] public section

set_option maxRecDepth 16384

noncomputable section

namespace Cert.KernelIdeal.Bwd

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks grid point `t` is handed, -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- and the small gradients after point `n`. -/
def accAt (c : Dev nD) : (n : ℕ) → n < cfg0.N → Vec F S8x1024 .f32
  | 0, hn => accBlock (grid0.coords ⟨0, hn⟩) (ins m c ⟨0, hn⟩) k0_pay3
  | n + 1, hn => accBlock (grid0.coords ⟨n + 1, hn⟩) (ins m c ⟨n + 1, hn⟩) (accAt c n (Nat.lt_of_succ_lt hn))

theorem accAt_first (c : Dev nD) (t : Fin cfg0.N) (h : t.val = 0) :
    accAt m c t.val t.isLt = accBlock (grid0.coords t) (ins m c t) k0_pay3 := by
  obtain ⟨n, hn⟩ := t
  have e : n = 0 := h
  subst e; rfl

theorem accAt_later (c : Dev nD) (t : Fin cfg0.N) (h : t.val ≠ 0) :
    accAt m c t.val t.isLt = accBlock (grid0.coords t) (ins m c t) (accAt m c (t.val - 1) (Nat.lt_of_le_of_lt (Nat.sub_le _ _) t.isLt)) := by
  obtain ⟨n, hn⟩ := t
  cases n with
  | zero => exact absurd rfl h
  | succ n => rfl

/-- The pipeline's proof data: the arrays as the call finds them; after each point an input's buffer still at its block, a
    result's at the block's function. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dqBlock (grid0.coords t) (ins m c t)
    | ⟨14, _⟩ => dkcBlock (grid0.coords t) (ins m c t)
    | ⟨15, _⟩ => dkpBlock (grid0.coords t) (ins m c t)
    | ⟨16, _⟩ => dvcBlock (grid0.coords t) (ins m c t)
    | ⟨17, _⟩ => dvpBlock (grid0.coords t) (ins m c t)
    | ⟨18, _⟩ => dzBlock (grid0.coords t) (ins m c t)
    | ⟨19, _⟩ => dztBlock (grid0.coords t) (ins m c t)
    | ⟨20, _⟩ => accAt m c t.val t.isLt
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = dqBlock (grid0.coords t) (ins m c t) := by dsimp only [dats]
theorem after14 (c : Dev nD) (t : Fin cfg0.N) : (dats m 0 c).after 14 t = dkcBlock (grid0.coords t) (ins m c t) := by dsimp only [dats]
theorem after15 (c : Dev nD) (t : Fin cfg0.N) : (dats m 0 c).after 15 t = dkpBlock (grid0.coords t) (ins m c t) := by dsimp only [dats]
theorem after16 (c : Dev nD) (t : Fin cfg0.N) : (dats m 0 c).after 16 t = dvcBlock (grid0.coords t) (ins m c t) := by dsimp only [dats]
theorem after17 (c : Dev nD) (t : Fin cfg0.N) : (dats m 0 c).after 17 t = dvpBlock (grid0.coords t) (ins m c t) := by dsimp only [dats]
theorem after18 (c : Dev nD) (t : Fin cfg0.N) : (dats m 0 c).after 18 t = dzBlock (grid0.coords t) (ins m c t) := by dsimp only [dats]
theorem after19 (c : Dev nD) (t : Fin cfg0.N) : (dats m 0 c).after 19 t = dztBlock (grid0.coords t) (ins m c t) := by dsimp only [dats]
theorem after20 (c : Dev nD) (t : Fin cfg0.N) : (dats m 0 c).after 20 t = accAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- After the first point the small gradients' buffer still holds what the point before left. -/
theorem before20 (c : Dev nD) (t : Fin cfg0.N) (h0 : ¬t.val % 32 = 0) (d) :
    (dats m 0 c).before 20 t d = accAt m c (t.val - 1) (Nat.lt_of_le_of_lt (Nat.sub_le _ _) t.isLt) := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]

/-! ## The body -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20]
  rw [show (dats m 0 c).Φ t.castSucc = Pipeline.ΦA spec0 c from rfl, PhiA0_eq]
  have hN : t.val < 32 := lt_of_lt_of_eq t.isLt (show cfg0.N = 32 from N_0)
  unfold dkcBlock dkpBlock dvcBlock dvpBlock
  by_cases h0 : t.val % 32 = 0
  · rw [accAt_first m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runFirst c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexact HS0
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; rw [dq_first, seen_eq]; exact read_dq _ _ _ _
    isplitl [H14]
    · unfold owns; iexists _; isplitr
      swap; · iexact H14
      ipureintro; rw [dkc_first, seen_eq]; exact read_four _ _ _
    isplitl [H15]
    · unfold owns; iexists _; isplitr
      swap; · iexact H15
      ipureintro; rw [dkp_first, seen_eq]; exact read_four _ _ _
    isplitl [H16]
    · unfold owns; iexists _; isplitr
      swap; · iexact H16
      ipureintro; rw [dvc_first, seen_eq]; exact read_four _ _ _
    isplitl [H17]
    · unfold owns; iexists _; isplitr
      swap; · iexact H17
      ipureintro; rw [dvp_first, seen_eq]; exact read_four _ _ _
    isplitl [H18]
    · unfold owns; iexists _; isplitr
      swap; · iexact H18
      ipureintro; rw [dz_first, b1_eq, b2_eq, f1_eq, f2_eq, seen_eq]; exact read_dz _ _ _ _
    isplitl [H19]
    · unfold owns; iexists _; isplitr
      swap; · iexact H19
      ipureintro; rw [dzt_first, b1_eq, b2_eq, f1_eq, f2_eq, seen_eq, cov_dz]; exact read_dzt _ _ _
    unfold owns; iexists _; isplitr
    swap; · iexact H20
    ipureintro
    exact acc_first_eq c (grid0.coords t) _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) _
  · rw [accAt_later m c t (by omega)]
    simp only [before20 m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply ((runLater c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [HS0]; · iexact HS0
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, H20, ⟨%fT0, HS0⟩⟩
    isplitl [HS0 Hg]
    · isplitl [HS0]
      · iexists _; unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; rw [dq_later, seen_eq]; exact read_dq _ _ _ _
    isplitl [H14]
    · unfold owns; iexists _; isplitr
      swap; · iexact H14
      ipureintro; rw [dkc_later, seen_eq]; exact read_four _ _ _
    isplitl [H15]
    · unfold owns; iexists _; isplitr
      swap; · iexact H15
      ipureintro; rw [dkp_later, seen_eq]; exact read_four _ _ _
    isplitl [H16]
    · unfold owns; iexists _; isplitr
      swap; · iexact H16
      ipureintro; rw [dvc_later, seen_eq]; exact read_four _ _ _
    isplitl [H17]
    · unfold owns; iexists _; isplitr
      swap; · iexact H17
      ipureintro; rw [dvp_later, seen_eq]; exact read_four _ _ _
    isplitl [H18]
    · unfold owns; iexists _; isplitr
      swap; · iexact H18
      ipureintro; rw [dz_later, b1_eq, b2_eq, f1_eq, f2_eq, seen_eq]; exact read_dz _ _ _ _
    isplitl [H19]
    · unfold owns; iexists _; isplitr
      swap; · iexact H19
      ipureintro; rw [dzt_later, b1_eq, b2_eq, f1_eq, f2_eq, seen_eq, cov_dz]; exact read_dzt _ _ _
    unfold owns; iexists _; isplitr
    swap; · iexact H20
    ipureintro
    exact acc_later_eq c (grid0.coords t) _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) _

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution terminates with every array of the call at what its blocks leave. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Bwd

end
-- ==== Proof.KernelFrame.lean ====
/- The kernel as it stands is the idealised kernel's text with the mask's name standing for the mask's own word: so its
   run is the idealised kernel's run, read at the floats' bits. -/
module

public import proofs.«01_k».proof.Defs
public import proofs.«01_k».proof.Proof.Frame
public import proofs.«01_k».proof.Proof.Gen.Kernel
public import Idealize.ShloMosaic.Lib.Ring

@[expose] public section

set_option maxRecDepth 16384

noncomputable section

namespace Cert.Proof

open Idealize.ShloMosaic Idealize.SL.Sem

/-- A name stands for its own word. -/
local instance ownWord : Named Bits := ⟨fun _ _ {φ} b => FloatOps.ofBits φ b⟩

theorem frame_kernel : Cert.quiescent_Kernel (hKernel := Cert.Kernel.Gen.facts) := fun m ρ hρ =>
  cast (by sl_kernel_rfl) (Cert.KernelIdeal.Bwd.frame (F := Bits) m ρ)

end Cert.Proof

end
-- ==== Proof.Point.lean ====
module

public import proofs.«01_k».proof.Proof.Blocks
public import Idealize.ShloMosaic.Lib.Pointwise
public import Idealize.ShloMosaic.PureOps.Ideal.Laws
public import Idealize.ShloMosaic.Lib.IdealHost
public import Idealize.ShloMosaic.Lib.WordCmp
public import Idealize.ShloMosaic.Lib.Pipeline.ValueKit.Tiles

@[expose] public section

set_option synthInstance.maxSize 4096

noncomputable section

namespace Cert.KernelIdeal.Bwd

open Cert.KernelIdeal Cert.KernelIdeal.Gen Idealize.ShloMosaic

variable (i : grid0.Coords) (X : Ins Ideal) (j : Fin 4)

theorem cols_apply {e : EltTy} {n w : ℕ} (m o : ℕ) (h : o + m ≤ w) (x : Vec Ideal ⟨2, ![n, w]⟩ e) (r : Fin n) (c : Fin m) :
    cols m o h x (ix2 r c) = x (ix2 r ⟨o + c.val, by omega⟩) := by
  unfold cols
  refine View.ld_unit_apply_of _ _ _ _ _ _ fun a => ?_
  match a with
  | ⟨0, _⟩ => exact (Nat.zero_add _).symm
  | ⟨1, _⟩ => rfl

theorem rows_apply {e : EltTy} {n w : ℕ} (m o : ℕ) (h : o + m ≤ n) (x : Vec Ideal ⟨2, ![n, w]⟩ e) (r : Fin m) (c : Fin w) :
    rows m o h x (ix2 r c) = x (ix2 ⟨o + r.val, by omega⟩ c) := by
  unfold rows
  refine View.ld_unit_apply_of _ _ _ _ _ _ fun a => ?_
  match a with
  | ⟨0, _⟩ => rfl
  | ⟨1, _⟩ => exact (Nat.zero_add _).symm

/-- Row `r` of the copy `ι` of pair `p` in the stack of 512. -/
def row (p ι : Fin 2) (r : Fin 128) : Fin 512 := ⟨128 * (2 * p.val + ι.val) + r.val, by omega⟩
/-- Column `d` of the copy `ι` among the 128 of a pair, -/
def copy (ι : Fin 2) (d : Fin 64) : Fin 128 := ⟨64 * ι.val + d.val, by omega⟩

theorem low (c : Fin 128) : IntOp.cmpi .slt (BitVec.ofNat 32 c.val) 64#32 = if c.val / 64 = 0 then 1#1 else 0#1 := by
  revert c; decide

theorem select_if {p : Prop} [Decidable p] {α : Type} (a b : α) :
    Scalar.select (if p then 1#1 else 0#1) a b = if p then a else b := by
  split <;> rfl

/-- The keys: the previous block over the current one. -/
theorem keys_at (k : Fin 256) (c : Fin 128) :
    keys X j (ix2 k c) = if h : k.val < 128 then X.kp (ix2 ⟨k.val, h⟩ ⟨128 * j.val + c.val, by omega⟩)
      else X.kc (ix2 ⟨k.val - 128, by omega⟩ ⟨128 * j.val + c.val, by omega⟩) := by
  unfold keys k0_pay8
  pointwise [cols_apply]

theorem vals_at (k : Fin 256) (c : Fin 128) :
    vals X j (ix2 k c) = if h : k.val < 128 then X.vp (ix2 ⟨k.val, h⟩ ⟨128 * j.val + c.val, by omega⟩)
      else X.vc (ix2 ⟨k.val - 128, by omega⟩ ⟨128 * j.val + c.val, by omega⟩) := by
  unfold vals k0_pay8
  pointwise [cols_apply]

/-- Four blocks of 128 rows, one under the other. -/
theorem stack_at (A B C D : S128x128.Idx → EReal) (p ι : Fin 2) (r c : Fin 128) :
    concatenate S512x128 0 [⟨S128x128, A⟩, ⟨S128x128, B⟩, ⟨S128x128, C⟩, ⟨S128x128, D⟩]
      concatenates_S128x128_S128x128_S128x128_S128x128_S512x128_d0 (ix2 (row p ι r) c)
      = (if p = 0 then (if ι = 0 then A else B) else if ι = 0 then C else D) (ix2 r c) := by
  pointwise
  match p, ι with
  | 0, 0 => rw [dif_pos (by show 128 * (2 * 0 + 0) + r.val < 128; omega)]; simp [row]
  | 0, 1 =>
    rw [dif_neg (by show ¬ 128 * (2 * 0 + 1) + r.val < 128; omega), dif_pos (by show 128 * (2 * 0 + 1) + r.val - 128 < 128; omega)]
    simp [row]
  | 1, 0 =>
    rw [dif_neg (by show ¬ 128 * (2 * 1 + 0) + r.val < 128; omega), dif_neg (by show ¬ 128 * (2 * 1 + 0) + r.val - 128 < 128; omega),
      dif_pos (by show 128 * (2 * 1 + 0) + r.val - 128 - 128 < 128; omega)]
    exact congrArg C (congrArg (fun a => ix2 a c) (Fin.ext (by show 128 * (2 * 1 + 0) + r.val - 128 - 128 = _; omega)))
  | 1, 1 =>
    rw [dif_neg (by show ¬ 128 * (2 * 1 + 1) + r.val < 128; omega), dif_neg (by show ¬ 128 * (2 * 1 + 1) + r.val - 128 < 128; omega),
      dif_neg (by show ¬ 128 * (2 * 1 + 1) + r.val - 128 - 128 < 128; omega)]
    exact congrArg D (congrArg (fun a => ix2 a c) (Fin.ext (by show 128 * (2 * 1 + 1) + r.val - 128 - 128 - 128 = _; omega)))

theorem queries_at (p ι : Fin 2) (r : Fin 128) (c : Fin 128) :
    queries X j (ix2 (row p ι r) c) = if c.val / 64 = ι.val then X.q (ix2 r ⟨256 * j.val + 128 * p.val + c.val, by omega⟩) else 0 := by
  unfold queries k0_pay20
  dsimp only
  rw [stack_at]
  have hc : c.val / 64 = 0 ∨ c.val / 64 = 1 := by omega
  match p, ι with
  | 0, 0 => pointwise [cols_apply, low, select_if]
  | 0, 1 => pointwise [cols_apply, low, select_if]; rcases hc with h | h <;> simp [h]
  | 1, 0 => pointwise [cols_apply, low, select_if]
  | 1, 1 => pointwise [cols_apply, low, select_if]; rcases hc with h | h <;> simp [h]

/-- The cotangents of the head's four query heads, stacked like the queries. -/
def cots : FVec Ideal S512x128 .f32 := k0_pay29 (dAtt X j 0) (dAtt X j 1) k0_pay28

theorem cots_at (p ι : Fin 2) (r : Fin 128) (c : Fin 128) :
    cots X j (ix2 (row p ι r) c) = if c.val / 64 = ι.val then dAtt X j p (ix2 r c) else 0 := by
  unfold cots k0_pay29
  rw [stack_at]
  have hc : c.val / 64 = 0 ∨ c.val / 64 = 1 := by omega
  match p, ι with
  | 0, 0 => pointwise [k0_pay28, low, select_if]
  | 0, 1 => pointwise [k0_pay28, low, select_if]; rcases hc with h | h <;> simp [h]
  | 1, 0 => pointwise [k0_pay28, low, select_if]
  | 1, 1 => pointwise [k0_pay28, low, select_if]; rcases hc with h | h <;> simp [h]

/-- A sum over the 128 columns of a pair whose terms vanish outside the copy `ι`. -/
theorem sum_copy (ι : Fin 2) (f : Fin 128 → EReal) (h : ∀ c : Fin 128, c.val / 64 ≠ ι.val → f c = 0) :
    ∑ c, f c = ∑ d : Fin 64, f (copy ι d) := by
  rw [show (∑ c, f c) = (∑ d : Fin 64, f (copy 0 d)) + ∑ d : Fin 64, f (copy 1 d) from by
    have := Fin.sum_univ_add (a := 64) (b := 64) f
    rw [this]
    refine congrArg₂ _ (Finset.sum_congr rfl fun d _ => congrArg f (Fin.ext ?_)) (Finset.sum_congr rfl fun d _ => congrArg f (Fin.ext ?_))
    · show d.val = 64 * 0 + d.val; omega
    · show 64 + d.val = 64 * 1 + d.val; omega]
  match ι with
  | 0 =>
    rw [Finset.sum_eq_zero (s := Finset.univ) (f := fun d : Fin 64 => f (copy 1 d)), add_zero]
    intro d _; refine h _ ?_; show (64 * 1 + d.val) / 64 ≠ 0; omega
  | 1 =>
    rw [Finset.sum_eq_zero (s := Finset.univ) (f := fun d : Fin 64 => f (copy 0 d)), zero_add]
    intro d _; refine h _ ?_; show (64 * 0 + d.val) / 64 ≠ 1; omega

theorem copy_div (ι : Fin 2) (d : Fin 64) : (copy ι d).val / 64 = ι.val := by
  show (64 * ι.val + d.val) / 64 = ι.val; omega

/-- The 512 rows, by pair, copy and row. -/
def rowEquiv : Fin 2 × Fin 2 × Fin 128 ≃ Fin 512 where
  toFun x := row x.1 x.2.1 x.2.2
  invFun r := (⟨r.val / 256, by omega⟩, ⟨r.val / 128 % 2, by omega⟩, ⟨r.val % 128, by omega⟩)
  left_inv := fun ⟨p, ι, r⟩ => by
    refine Prod.ext (Fin.ext ?_) (Prod.ext (Fin.ext ?_) (Fin.ext ?_)) <;> simp only [row] <;> omega
  right_inv := fun r => Fin.ext (by simp only [row]; omega)

theorem sum_rows (f : Fin 512 → EReal) : ∑ ρ, f ρ = ∑ p : Fin 2, ∑ ι : Fin 2, ∑ r : Fin 128, f (row p ι r) := by
  rw [← Equiv.sum_comp rowEquiv f, Fintype.sum_prod_type]
  refine Finset.sum_congr rfl fun p _ => ?_
  rw [Fintype.sum_prod_type]; rfl

/-- The masked scores. -/
theorem scores_at (p ι : Fin 2) (r : Fin 128) (k : Fin 256) :
    scores i X j (ix2 (row p ι r) k) = Scalar.select (k0_pay2 i (ix2 (row p ι r) k))
      ((∑ d : Fin 64, X.q (ix2 r ⟨256 * j.val + 128 * p.val + (copy ι d).val, by omega⟩) * keys X j (ix2 k (copy ι d)))
        * Ideal.ofBits .f32 0x3E000000#32) ⊥ := by
  have e : scores i X j (ix2 (row p ι r) k) = Scalar.select (k0_pay2 i (ix2 (row p ι r) k))
      ((∑ c : Fin 128, queries X j (ix2 (row p ι r) c) * keys X j (ix2 k c)) * Ideal.ofBits .f32 0x3E000000#32) ⊥ := by
    unfold scores k0_pay23
    pointwise
    rfl
  rw [e, sum_copy ι]
  · simp only [queries_at, copy_div, if_true]
  · intro c h; rw [queries_at, if_neg h, zero_mul]

/-- The word telling a row's query head. -/
theorem head_word : ∀ ρ : Fin 512, k0_pay21 (ix2 ρ 0) = BitVec.ofNat 32 (ρ.val / 128) := by
  decide +kernel

theorem sgt_if {a b : Nat} (ha : a < 2 ^ 31) (hb : b < 2 ^ 31) :
    IntOp.cmpi .sgt (BitVec.ofNat 32 a) (BitVec.ofNat 32 b) = if b < a then 1#1 else 0#1 := by
  split
  · exact (WordCmp.cmpi_sgt_ofNat_eq_one_iff ha hb).2 ‹_›
  · exact (WordCmp.cmpi_sgt_ofNat_eq_zero_iff ha hb).2 (by omega)

theorem sle_if {a b : Nat} (ha : a < 2 ^ 31) (hb : b < 2 ^ 31) :
    IntOp.cmpi .sle (BitVec.ofNat 32 a) (BitVec.ofNat 32 b) = if a ≤ b then 1#1 else 0#1 := by
  split
  · exact (WordCmp.cmpi_sle_ofNat_eq_one_iff ha hb).2 ‹_›
  · exact (WordCmp.cmpi_sle_ofNat_eq_zero_iff ha hb).2 (by omega)

theorem sge_if {a b : Nat} (ha : a < 2 ^ 31) (hb : b < 2 ^ 31) :
    IntOp.cmpi .sge (BitVec.ofNat 32 a) (BitVec.ofNat 32 b) = if b ≤ a then 1#1 else 0#1 := by
  split
  · exact (WordCmp.cmpi_sge_ofNat_eq_one_iff ha hb).2 ‹_›
  · exact (WordCmp.cmpi_sge_ofNat_eq_zero_iff ha hb).2 (by omega)

theorem and_if {p q : Prop} [Decidable p] [Decidable q] :
    IntOp.andi (if p then 1#1 else 0#1) (if q then 1#1 else 0#1) = if p ∧ q then 1#1 else 0#1 := by
  by_cases hp : p <;> by_cases hq : q <;> simp [hp, hq] <;> rfl

theorem or_if {p q : Prop} [Decidable p] [Decidable q] :
    IntOp.ori (if p then 1#1 else 0#1) (if q then 1#1 else 0#1) = if p ∨ q then 1#1 else 0#1 := by
  by_cases hp : p <;> by_cases hq : q <;> simp [hp, hq] <;> rfl

/-- A row's place in its block of 128, as the kernel computes it. -/
theorem rem_word : ∀ ρ : Fin 512, Scalar.select
    (IntOp.andi
      (IntOp.xori
        (IntOp.cmpi .slt (IntOp.remsi ArithUnit.vector (BitVec.ofNat 32 ρ.val) (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi ArithUnit.vector (BitVec.ofNat 32 ρ.val) (Scalar.select (Scalar.cmpi .eq 128#32 0#32) 1#32 128#32)) 0#32))
    (IntOp.addi (IntOp.remsi ArithUnit.vector (BitVec.ofNat 32 ρ.val) (Scalar.select (Scalar.cmpi .eq 128#32 0#32) 1#32 128#32))
      (Scalar.select (Scalar.cmpi .eq 128#32 0#32) 1#32 128#32))
    (IntOp.remsi ArithUnit.vector (BitVec.ofNat 32 ρ.val) (Scalar.select (Scalar.cmpi .eq 128#32 0#32) 1#32 128#32))
    = BitVec.ofNat 32 (ρ.val % 128) := by
  decide +kernel

/-- The mask: a row sees the 128 columns after its own place, and none of the previous block at the first point. -/
theorem mask_at (p ι : Fin 2) (r : Fin 128) (k : Fin 256) : k0_pay2 i (ix2 (row p ι r) k)
    = if (r.val < k.val ∧ k.val ≤ r.val + 128) ∧ (128 ≤ k.val ∨ 0 < (i 0).val) then 1#1 else 0#1 := by
  have hi : (i 0).val < 32 := (i 0).isLt
  have hr : (row p ι r).val % 128 = r.val := by show (128 * (2 * p.val + ι.val) + r.val) % 128 = _; omega
  unfold k0_pay2
  pointwise [rem_word]
  rw [hr, show IntOp.addi (BitVec.ofNat 32 r.val) 128#32 = _ from WordCmp.addi_ofNat r.val 128, sgt_if (by omega) (by omega), sle_if (by omega) (by omega), and_if,
    show (IntOp.cmpi .sge (BitVec.ofNat 32 k.val) 128#32) = _ from sge_if (b := 128) (by omega) (by omega),
    show (Scalar.cmpi .sgt (BitVec.ofNat 32 (i 0).val) 0#32) = _ from sgt_if (b := 0) (by omega) (by omega), or_if, and_if]

theorem sink_at (h : Fin 4) : sink X j h = X.sinks (ix2 0 ⟨4 * j.val + h.val, by omega⟩) := by
  unfold sink
  refine View.ld_unit_apply_of _ _ _ _ _ _ fun a => ?_
  match a with
  | ⟨0, _⟩ => rfl
  | ⟨1, _⟩ => rfl

/-- The sinks' column. -/
theorem sinkCol_at (p ι : Fin 2) (r : Fin 128) :
    sinkCol X j (ix2 (row p ι r) 0) = X.sinks (ix2 0 ⟨4 * j.val + 2 * p.val + ι.val, by omega⟩) := by
  unfold sinkCol k0_pay22 zero
  pointwise [head_word]
  have e : (row p ι r).val / 128 = 2 * p.val + ι.val := by show (128 * (2 * p.val + ι.val) + r.val) / 128 = _; omega
  rw [e]
  match p, ι with
  | 0, 0 => exact sink_at X j 0
  | 0, 1 => exact sink_at X j 1
  | 1, 0 => exact sink_at X j 2
  | 1, 1 => exact sink_at X j 3

theorem peaks_at (ρ : Fin 512) : peaks i X j (ix2 ρ 0)
    = max (Finset.fold max (Ideal.ofBits .f32 0xFF800000#32) (fun k => scores i X j (ix2 ρ k)) Finset.univ) (sinkCol X j (ix2 ρ 0)) := by
  unfold peaks k0_pay24
  pointwise
  rfl

theorem totals_at (ρ : Fin 512) : totals i X j (ix2 ρ 0)
    = (∑ k : Fin 256, Ideal.exp (scores i X j (ix2 ρ k) - peaks i X j (ix2 ρ 0))) + Ideal.exp (sinkCol X j (ix2 ρ 0) - peaks i X j (ix2 ρ 0)) := by
  unfold totals k0_pay26 k0_pay25
  pointwise
  rfl

theorem probs_at (ρ : Fin 512) (k : Fin 256) : probs i X j (ix2 ρ k)
    = Ideal.div (Ideal.exp (scores i X j (ix2 ρ k) - peaks i X j (ix2 ρ 0))) (totals i X j (ix2 ρ 0)) := by
  unfold probs k0_pay27 k0_pay25
  pointwise
  rfl

/-- The cotangent of the attention's output. -/
theorem dAtt_at (p : Fin 2) (r c : Fin 128) : dAtt X j p (ix2 r c)
    = X.dm (ix2 r ⟨256 * j.val + 128 * p.val + c.val, by omega⟩) * (X.z (ix2 r ⟨1536 + 256 * j.val + 128 * p.val + c.val, by omega⟩)
      * Ideal.logistic (X.z (ix2 r ⟨1536 + 256 * j.val + 128 * p.val + c.val, by omega⟩))) := by
  unfold dAtt gate cot k0_pay11 k0_pay9
  pointwise [cols_apply]

theorem stack_pair (p ι : Fin 2) (r c : Fin 128) (A B : S128x128.Idx → EReal) :
    (if h : (row p ι r).val < 128 then A (ix2 ⟨(row p ι r).val, h⟩ c)
      else if h : (row p ι r).val - 128 < 128 then A (ix2 ⟨(row p ι r).val - 128, h⟩ c)
      else if h : (row p ι r).val - 128 - 128 < 128 then B (ix2 ⟨(row p ι r).val - 128 - 128, h⟩ c)
      else B (ix2 ⟨(row p ι r).val - 128 - 128 - 128, by omega⟩ c)) = (if p = 0 then A else B) (ix2 r c) := by
  match p, ι with
  | 0, 0 => rw [dif_pos (by show 128 * (2 * 0 + 0) + r.val < 128; omega)]; simp [row]
  | 0, 1 =>
    rw [dif_neg (by show ¬ 128 * (2 * 0 + 1) + r.val < 128; omega), dif_pos (by show 128 * (2 * 0 + 1) + r.val - 128 < 128; omega)]
    simp [row]
  | 1, 0 =>
    rw [dif_neg (by show ¬ 128 * (2 * 1 + 0) + r.val < 128; omega), dif_neg (by show ¬ 128 * (2 * 1 + 0) + r.val - 128 < 128; omega),
      dif_pos (by show 128 * (2 * 1 + 0) + r.val - 128 - 128 < 128; omega)]
    exact congrArg B (congrArg (fun a => ix2 a c) (Fin.ext (by show 128 * (2 * 1 + 0) + r.val - 128 - 128 = _; omega)))
  | 1, 1 =>
    rw [dif_neg (by show ¬ 128 * (2 * 1 + 1) + r.val < 128; omega), dif_neg (by show ¬ 128 * (2 * 1 + 1) + r.val - 128 < 128; omega),
      dif_neg (by show ¬ 128 * (2 * 1 + 1) + r.val - 128 - 128 < 128; omega)]
    exact congrArg B (congrArg (fun a => ix2 a c) (Fin.ext (by show 128 * (2 * 1 + 1) + r.val - 128 - 128 - 128 = _; omega)))

/-- The row sums of cotangent times output. -/
theorem deltas_at (p ι : Fin 2) (r : Fin 128) : deltas X j (ix2 (row p ι r) 0)
    = ∑ d : Fin 64, dAtt X j p (ix2 r (copy ι d)) * X.a (ix2 r ⟨256 * j.val + 128 * p.val + (copy ι d).val, by omega⟩) := by
  have e : deltas X j (ix2 (row p ι r) 0) = ∑ c : Fin 128, cots X j (ix2 (row p ι r) c) * att X j p (ix2 r c) := by
    unfold deltas k0_pay30
    pointwise
    refine Finset.sum_congr rfl fun c _ => congrArg₂ _ rfl ?_
    refine (stack_pair p ι r c (k0_pay10 (att X j 0)) (k0_pay10 (att X j 1))).trans ?_
    match p with
    | 0 => rw [if_pos rfl]; unfold k0_pay10; pointwise
    | 1 => rw [if_neg (by decide)]; unfold k0_pay10; pointwise
  rw [e, sum_copy ι]
  · simp only [cots_at, copy_div, if_true, att, k0_pay10]
    pointwise [cols_apply]
  · intro c h; rw [cots_at, if_neg h, zero_mul]

/-- The gradient of the scores, scaled. -/
def dScores : FVec Ideal S512x256 .f32 :=
  k0_pay32 (vals X j) (k0_pay10 (att X j 0)) (dAtt X j 0) (k0_pay10 (att X j 1)) (dAtt X j 1) (probs i X j) k0_pay28

theorem dScores_at (p ι : Fin 2) (r : Fin 128) (k : Fin 256) : dScores i X j (ix2 (row p ι r) k)
    = probs i X j (ix2 (row p ι r) k) * ((∑ d : Fin 64, dAtt X j p (ix2 r (copy ι d)) * vals X j (ix2 k (copy ι d)))
      - deltas X j (ix2 (row p ι r) 0)) * Ideal.ofBits .f32 0x3E000000#32 := by
  have e : dScores i X j (ix2 (row p ι r) k) = probs i X j (ix2 (row p ι r) k) * ((∑ c : Fin 128, cots X j (ix2 (row p ι r) c) * vals X j (ix2 k c))
      - deltas X j (ix2 (row p ι r) 0)) * Ideal.ofBits .f32 0x3E000000#32 := by
    unfold dScores k0_pay32 k0_pay31
    pointwise
    rfl
  rw [e, sum_copy ι]
  · simp only [cots_at, copy_div, if_true]
  · intro c h; rw [cots_at, if_neg h, zero_mul]

/-- The gradient of the queries. -/
theorem dqLow_at (ι : Fin 2) (r : Fin 128) (d : Fin 64) : dqLow i X j (ix2 r (copy ι d))
    = ∑ k : Fin 256, dScores i X j (ix2 (row 0 ι r) k) * keys X j (ix2 k (copy ι d)) := by
  unfold dqLow k0_pay35
  pointwise [k0_pay34, low, copy_div, select_if, k0_pay33]
  match ι with
  | 0 =>
    refine (if_pos rfl).trans (Finset.sum_congr rfl fun k _ => congrArg₂ _ (congrArg (dScores i X j) (congrArg (fun a => ix2 a k) (Fin.ext ?_))) rfl)
    show r.val = 128 * (2 * 0 + 0) + r.val; omega
  | 1 =>
    refine (if_neg (by decide)).trans (Finset.sum_congr rfl fun k _ => congrArg₂ _ (congrArg (dScores i X j) (congrArg (fun a => ix2 a k) (Fin.ext ?_))) rfl)
    show 128 + r.val = 128 * (2 * 0 + 1) + r.val; omega

theorem dqHigh_at (ι : Fin 2) (r : Fin 128) (d : Fin 64) : dqHigh i X j (ix2 r (copy ι d))
    = ∑ k : Fin 256, dScores i X j (ix2 (row 1 ι r) k) * keys X j (ix2 k (copy ι d)) := by
  unfold dqHigh k0_pay36
  pointwise [k0_pay34, low, copy_div, select_if, k0_pay33]
  match ι with
  | 0 =>
    refine (if_pos rfl).trans (Finset.sum_congr rfl fun k _ => congrArg₂ _ (congrArg (dScores i X j) (congrArg (fun a => ix2 a k) (Fin.ext ?_))) rfl)
    show 256 + r.val = 128 * (2 * 1 + 0) + r.val; omega
  | 1 =>
    refine (if_neg (by decide)).trans (Finset.sum_congr rfl fun k _ => congrArg₂ _ (congrArg (dScores i X j) (congrArg (fun a => ix2 a k) (Fin.ext ?_))) rfl)
    show 384 + r.val = 128 * (2 * 1 + 1) + r.val; omega

/-- The gradients of the keys and the values. -/
theorem dKeys_at (k : Fin 256) (ι : Fin 2) (d : Fin 64) : dKeys i X j (ix2 k (copy ι d))
    = ∑ p : Fin 2, ∑ r : Fin 128, dScores i X j (ix2 (row p ι r) k) * X.q (ix2 r ⟨256 * j.val + 128 * p.val + (copy ι d).val, by omega⟩) := by
  have e : dKeys i X j (ix2 k (copy ι d)) = ∑ ρ : Fin 512, dScores i X j (ix2 ρ k) * queries X j (ix2 ρ (copy ι d)) := by
    unfold dKeys k0_pay37
    pointwise
    rfl
  rw [e, sum_rows]
  refine Finset.sum_congr rfl fun p _ => ?_
  rw [Finset.sum_eq_single ι]
  · simp only [queries_at, copy_div, if_true]
  · intro κ _ h
    refine Finset.sum_eq_zero fun r _ => ?_
    rw [queries_at, copy_div, if_neg (fun e => h (Fin.ext e.symm)), mul_zero]
  · intro h; exact absurd (Finset.mem_univ _) h

theorem dVals_at (k : Fin 256) (ι : Fin 2) (d : Fin 64) : dVals i X j (ix2 k (copy ι d))
    = ∑ p : Fin 2, ∑ r : Fin 128, probs i X j (ix2 (row p ι r) k) * dAtt X j p (ix2 r (copy ι d)) := by
  have e : dVals i X j (ix2 k (copy ι d)) = ∑ ρ : Fin 512, probs i X j (ix2 ρ k) * cots X j (ix2 ρ (copy ι d)) := by
    unfold dVals k0_pay38 k0_pay31
    pointwise
    rfl
  rw [e, sum_rows]
  refine Finset.sum_congr rfl fun p _ => ?_
  rw [Finset.sum_eq_single ι]
  · simp only [cots_at, copy_div, if_true]
  · intro κ _ h
    refine Finset.sum_eq_zero fun r _ => ?_
    rw [cots_at, copy_div, if_neg (fun e => h (Fin.ext e.symm)), mul_zero]
  · intro h; exact absurd (Finset.mem_univ _) h

end Cert.KernelIdeal.Bwd
end
-- ==== Proof.RefAt.lean ====
/- The reference's operations at an index: the doubled keys, the mask, the masked scores, their peaks, totals and
   probabilities, the cotangent of the attention's output, and the gradient of the doubled values. -/
module

public import proofs.«01_k».proof.Proof.Gen.ReferenceIdeal.Read
public import Idealize.ShloMosaic.Lib.Pointwise
public import Idealize.ShloMosaic.Lib.IdealHost
public import Idealize.ShloMosaic.Lib.WordCmp

@[expose] public section

set_option synthInstance.maxSize 4096

noncomputable section

namespace Cert.ReferenceIdeal.Read

open Cert.ReferenceIdeal Cert.ReferenceIdeal.Gen Idealize.ShloMosaic

variable (x0 : (⟨S4096x1024, .f32⟩ : BufTy).Contents (Elt Ideal)) (x1 : (⟨S4096x256, .f32⟩ : BufTy).Contents (Elt Ideal))
  (x3 : (⟨S4096x6656, .f32⟩ : BufTy).Contents (Elt Ideal)) (x4 : (⟨S16, .f32⟩ : BufTy).Contents (Elt Ideal))
  (x6 : (⟨S4096x2048, .f32⟩ : BufTy).Contents (Elt Ideal))
  (n : Fin 32) (j : Fin 4) (p ι : Fin 2) (d : Fin 64)

theorem at_congr {a b : ℕ} {α : Type} (x : (⟨2, ![a, b]⟩ : Shape).Idx → α) {r r' : Fin a} {c c' : Fin b} (hr : r.val = r'.val) (hc : c.val = c'.val) :
    x (ix2 r c) = x (ix2 r' c') := by
  rw [Fin.ext hr, Fin.ext hc]

theorem and_if {p q : Prop} [Decidable p] [Decidable q] :
    IntOp.andi (if p then 1#1 else 0#1) (if q then 1#1 else 0#1) = if p ∧ q then 1#1 else 0#1 := by
  by_cases hp : p <;> by_cases hq : q <;> simp [hp, hq] <;> rfl

theorem negInf : Ideal.ofBits .f32 0xFF800000#32 = ⊥ := by
  simp [Ideal.ofBits, Ideal.ieee]

/-- The distance of a query from a key does not depend on the block. -/
theorem gap_word (a r k : BitVec 32) : IntOp.subi (IntOp.addi a r) (IntOp.addi (IntOp.subi a 128#32) k) = IntOp.subi (IntOp.addi r 128#32) k := by
  show a + r - (a - 128#32 + k) = r + 128#32 - k
  bv_omega

theorem gap_mask : ∀ (r : Fin 128) (k : Fin 256), IntOp.andi
    (IntOp.cmpi .sge (IntOp.subi (IntOp.addi (BitVec.ofNat 32 r.val) 128#32) (BitVec.ofNat 32 k.val)) 0#32)
    (IntOp.cmpi .slt (IntOp.subi (IntOp.addi (BitVec.ofNat 32 r.val) 128#32) (BitVec.ofNat 32 k.val)) 128#32)
    = if r.val < k.val ∧ k.val ≤ r.val + 128 then 1#1 else 0#1 := by
  decide +kernel

theorem key_mask : ∀ (n : Fin 32) (k : Fin 256), IntOp.cmpi .sge
    (IntOp.addi (IntOp.subi (IntOp.muli (BitVec.ofNat 32 n.val) 128#32) 128#32) (BitVec.ofNat 32 k.val)) 0#32
    = if 128 ≤ k.val ∨ 0 < n.val then 1#1 else 0#1 := by
  decide +kernel

theorem twice_at (r : Fin 128) (c : Fin 512) : val_main_v2 (F := Ideal) x1 (ix3 n r c)
    = x1 (ix2 ⟨128 * n.val + r.val, by omega⟩ ⟨64 * (c.val / 128) + c.val % 64, by omega⟩) := by
  unfold val_main_v2 val_main_v1 val_main_v0
  pointwise
  split <;> (refine at_congr x1 ?_ ?_ <;> dsimp only <;> omega)

theorem band_at (k : Fin 256) (c : Fin 512) : val_main_v6 (F := Ideal) x1 (ix3 n k c)
    = if h : k.val < 128 then (if h' : n.val = 0 then 0 else val_main_v2 (F := Ideal) x1 (ix3 ⟨n.val - 1, by omega⟩ ⟨k.val, h⟩ c))
      else val_main_v2 (F := Ideal) x1 (ix3 n ⟨k.val - 128, by omega⟩ c) := by
  unfold val_main_v6 val_main_v5 val_main_v4 val_main_v3 val_main_cst
  pointwise
  by_cases hk : k.val < 128
  · rw [dif_pos hk, dif_pos hk]
    by_cases hn : n.val = 0
    · rw [dif_pos (by omega), dif_pos hn]
    · rw [dif_neg (by omega), dif_neg hn]
  · rw [dif_neg hk, dif_neg hk]

theorem dots_at (r : Fin 128) (k : Fin 256) : val_main_v21 (F := Ideal) x0 x1 (ix6 n j p ι r k)
    = (∑ d : Fin 64, x0 (ix2 ⟨128 * n.val + r.val, by omega⟩ ⟨256 * j.val + 128 * p.val + (64 * ι.val + d.val), by omega⟩)
        * val_main_v6 (F := Ideal) x1 (ix3 n k ⟨128 * j.val + (64 * ι.val + d.val), by omega⟩)) * Ideal.ofBits .f32 0x3E000000#32 := by
  unfold val_main_v21 val_main_v20 val_main_v19 val_main_v18 val_main_v16 val_main_v15 val_main_cst_1
  pointwise
  refine congrArg (· * _) (Finset.sum_congr rfl fun d _ => (mul_comm _ _).trans (congrArg₂ (· * ·) (at_congr x0 ?_ ?_) ?_))
  · dsimp only; omega
  · dsimp only; omega
  · exact congrArg (fun c => val_main_v6 (F := Ideal) x1 (ix3 n k c)) (Fin.ext (by dsimp only; omega))

theorem masked_at (r : Fin 128) (k : Fin 256) : val_main_v53 (F := Ideal) x0 x1 (ix6 n j p ι r k)
    = Scalar.select (val_main_v51 (F := Ideal) (ix3 n r k)) (val_main_v21 (F := Ideal) x0 x1 (ix6 n j p ι r k)) ⊥ := by
  unfold val_main_v53 val_main_call0_v1 val_main_v52 val_main_call0_v2 val_main_call0_v0 val_main_cst_6
  pointwise
  exact congrArg (Scalar.select _ _) negInf

theorem mask_at (r : Fin 128) (k : Fin 256) : val_main_v51 (F := Ideal) (ix3 n r k)
    = if (r.val < k.val ∧ k.val ≤ r.val + 128) ∧ (128 ≤ k.val ∨ 0 < n.val) then 1#1 else 0#1 := by
  unfold val_main_v51 val_main_v47 val_main_v44 val_main_v43 val_main_c_3 val_main_v46 val_main_v45 val_main_c_4 val_main_v42 val_main_v40 val_main_v41
    val_main_v39 val_main_v50 val_main_v49 val_main_v48 val_main_c_5 val_main_v38 val_main_v37 val_main_v36 val_main_v35 val_main_v34 val_main_v33
    val_main_v32 val_main_v31 val_main_c_2 val_main_v30 val_main_v29 val_main_v28 val_main_v27 val_main_v26 val_main_v25 val_main_v24 val_main_c val_main_v23 val_main_v22
  pointwise
  rw [gap_word, gap_mask, key_mask, and_if]

theorem sinks_at (r : Fin 128) : val_main_v58 (F := Ideal) x4 (ix6 n j p ι r 0) = x4 (ix1 ⟨4 * j.val + 2 * p.val + ι.val, by omega⟩) := by
  unfold val_main_v58 val_main_v55 val_main_v54
  pointwise
  exact congrArg (fun h => x4 (ix1 h)) (Fin.ext (by dsimp only; omega))

theorem sinks_at' (r : Fin 128) : val_main_v65 (F := Ideal) x4 (ix6 n j p ι r 0) = x4 (ix1 ⟨4 * j.val + 2 * p.val + ι.val, by omega⟩) := by
  unfold val_main_v65 val_main_v55 val_main_v54
  pointwise
  exact congrArg (fun h => x4 (ix1 h)) (Fin.ext (by dsimp only; omega))

theorem maxAt (y : S32x4x2x2x128x256.Idx → EReal) (init : S_.Idx → EReal) (n : Fin 32) (j : Fin 4) (p ι : Fin 2) (r : Fin 128) :
    Host.reduce (FloatOps.maximumf (F := Ideal) (φ := .f32)) y init reducesTo_S32x4x2x2x128x256_S32x4x2x2x128_d5 h_S_ (ix5 n j p ι r)
      = Finset.fold (FloatOps.maximumf (F := Ideal) (φ := .f32)) (init (Shape.Idx.first h_S_)) (fun k : Fin 256 => y (ix6 n j p ι r k)) Finset.univ := by
  rw [Host.reduce_eq_fold_single (α := Ideal .f32) (FloatOps.maximumf (F := Ideal) (φ := .f32)) y
      init reducesTo_S32x4x2x2x128x256_S32x4x2x2x128_d5 (by decide) h_S_ (ix5 n j p ι r)]
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem peaks_at (r : Fin 128) : val_main_v59 (F := Ideal) x0 x1 x4 (ix6 n j p ι r 0)
    = max (Finset.fold max (Ideal.ofBits .f32 0xFF800000#32) (fun k => val_main_v53 (F := Ideal) x0 x1 (ix6 n j p ι r k)) Finset.univ)
        (val_main_v58 (F := Ideal) x4 (ix6 n j p ι r 0)) := by
  rw [val_main_v59_apply, val_main_v57_apply]
  rw [show idx_main_v57 (ix6 n j p ι r 0) = ix5 n j p ι r from
      funext fun a => by match a with | ⟨0, _⟩ => rfl | ⟨1, _⟩ => rfl | ⟨2, _⟩ => rfl | ⟨3, _⟩ => rfl | ⟨4, _⟩ => rfl]
  rw [show val_main_v56 (F := Ideal) x0 x1 (ix5 n j p ι r) = _ from
      maxAt (val_main_v53 (F := Ideal) x0 x1) (val_main_cst_7 (F := Ideal)) n j p ι r]
  rfl

theorem totals_at (r : Fin 128) : val_main_v68 (F := Ideal) x0 x1 x4 (ix6 n j p ι r 0)
    = (∑ k : Fin 256, Ideal.exp (val_main_v53 (F := Ideal) x0 x1 (ix6 n j p ι r k) - val_main_v59 (F := Ideal) x0 x1 x4 (ix6 n j p ι r 0)))
      + Ideal.exp (val_main_v65 (F := Ideal) x4 (ix6 n j p ι r 0) - val_main_v59 (F := Ideal) x0 x1 x4 (ix6 n j p ι r 0)) := by
  have e : val_main_v63 (F := Ideal) x0 x1 x4 (ix5 n j p ι r)
      = ∑ k : Fin 256, Ideal.exp (val_main_v53 (F := Ideal) x0 x1 (ix6 n j p ι r k) - val_main_v59 (F := Ideal) x0 x1 x4 (ix6 n j p ι r 0)) := by
    rw [val_main_v63_apply, show (val_main_cst_8 (F := Ideal)) (Shape.Idx.first h_S_) = (0 : EReal) from Ideal.ofBits_zero_f32, zero_add]
    refine Finset.sum_congr rfl fun k _ => ?_
    rw [show idx_main_v63 (ix5 n j p ι r) k = ix6 n j p ι r k from
      funext fun a => by match a with | ⟨0, _⟩ => rfl | ⟨1, _⟩ => rfl | ⟨2, _⟩ => rfl | ⟨3, _⟩ => rfl | ⟨4, _⟩ => rfl | ⟨5, _⟩ => rfl]
    unfold val_main_v62 val_main_v61 val_main_v60
    pointwise
  unfold val_main_v68 val_main_v67 val_main_v66 val_main_v64
  generalize val_main_v63 (F := Ideal) x0 x1 x4 = y at *
  pointwise
  rw [e]

theorem probs_at (r : Fin 128) (k : Fin 256) : val_main_v70 (F := Ideal) x0 x1 x4 (ix6 n j p ι r k)
    = Ideal.div (Ideal.exp (val_main_v53 (F := Ideal) x0 x1 (ix6 n j p ι r k) - val_main_v59 (F := Ideal) x0 x1 x4 (ix6 n j p ι r 0)))
      (val_main_v68 (F := Ideal) x0 x1 x4 (ix6 n j p ι r 0)) := by
  unfold val_main_v70 val_main_v69 val_main_v62 val_main_v61 val_main_v60
  pointwise

theorem cot_at (r : Fin 128) : val_main_v79 (F := Ideal) x3 x6 (ix6 n j ι d p r)
    = x6 (ix2 ⟨128 * n.val + r.val, by omega⟩ ⟨256 * j.val + 128 * p.val + (64 * ι.val + d.val), by omega⟩)
      * (x3 (ix2 ⟨128 * n.val + r.val, by omega⟩ ⟨1536 + 256 * j.val + 128 * p.val + (64 * ι.val + d.val), by omega⟩)
        * Ideal.logistic (x3 (ix2 ⟨128 * n.val + r.val, by omega⟩ ⟨1536 + 256 * j.val + 128 * p.val + (64 * ι.val + d.val), by omega⟩))) := by
  unfold val_main_v79 val_main_v78 val_main_v77 val_main_v76 val_main_v74 val_main_call1_v5 val_main_call1_v4 val_main_call1_cst_0 val_main_call1_v3 val_main_call1_v2 val_main_call1_cst
    val_main_call1_v1 val_main_call1_v0 val_main_v14
  pointwise
  refine congrArg₂ (fun a b : EReal => a * b) (at_congr x6 ?_ ?_)
    (congrArg (fun a : EReal => a * Ideal.div 1 (1 + Ideal.exp (-a))) (at_congr x3 ?_ ?_)) <;> dsimp only <;> omega

theorem dVals_at (k : Fin 256) : val_main_v82 (F := Ideal) x0 x1 x3 x4 x6 (ix3 n k ⟨128 * j.val + (64 * ι.val + d.val), by omega⟩)
    = ∑ p : Fin 2, ∑ r : Fin 128, val_main_v79 (F := Ideal) x3 x6 (ix6 n j ι d p r) * val_main_v70 (F := Ideal) x0 x1 x4 (ix6 n j p ι r k) := by
  unfold val_main_v82 val_main_v81 val_main_v80
  pointwise

theorem current_at (r : Fin 128) (c : Fin 512) : val_main_v84 (F := Ideal) x0 x1 x3 x4 x6 (ix2 ⟨128 * n.val + r.val, by omega⟩ c)
    = val_main_v82 (F := Ideal) x0 x1 x3 x4 x6 (ix3 n ⟨128 + r.val, by omega⟩ c) := by
  unfold val_main_v84 val_main_v83
  pointwise

theorem previous_at (r : Fin 128) (c : Fin 512) : val_main_v86 (F := Ideal) x0 x1 x3 x4 x6 (ix2 ⟨128 * n.val + r.val, by omega⟩ c)
    = val_main_v82 (F := Ideal) x0 x1 x3 x4 x6 (ix3 n ⟨r.val, by omega⟩ c) := by
  unfold val_main_v86 val_main_v85
  pointwise

end Cert.ReferenceIdeal.Read
end
-- ==== Proof.Attn.lean ====
/- The attention's gradient of the values at one grid point: the kernel's probabilities are the reference's, and so is the
   block of the doubled values' gradient. -/
module

public import proofs.«01_k».proof.Proof.Point
public import proofs.«01_k».proof.Proof.RefAt

@[expose] public section

set_option synthInstance.maxSize 4096

noncomputable section

namespace Cert.KernelIdeal.Bwd

open Cert.KernelIdeal Cert.KernelIdeal.Gen Idealize.ShloMosaic
open Cert.ReferenceIdeal.Read (val_main_v2 val_main_v6 val_main_v21 val_main_v51 val_main_v53 val_main_v58 val_main_v59 val_main_v65 val_main_v68 val_main_v70
  val_main_v79 val_main_v82)

/-- The blocks a grid point is handed, in terms of the arguments: the queries', gates' and cotangent's rows of block `t`;
    the doubled keys of blocks `t` and `t - 1`; the sinks. -/
structure Reads (x0 : S4096x1024.Idx → EReal) (x1 : S4096x256.Idx → EReal) (x3 : S4096x6656.Idx → EReal) (x4 : S16.Idx → EReal)
    (x6 : S4096x2048.Idx → EReal) (t : Fin 32) (i : grid0.Coords) (X : Ins Ideal) : Prop where
  point : (i 0).val = t.val
  q : ∀ (r : Fin 128) (c : Fin 1024), X.q (ix2 r c) = x0 (ix2 ⟨128 * t.val + r.val, by omega⟩ c)
  kc : ∀ (r : Fin 128) (c : Fin 512), X.kc (ix2 r c) = val_main_v2 (F := Ideal) x1 (ix3 t r c)
  kp : 0 < t.val → ∀ (r : Fin 128) (c : Fin 512), X.kp (ix2 r c) = val_main_v2 (F := Ideal) x1 (ix3 ⟨t.val - 1, by omega⟩ r c)
  z : ∀ (r : Fin 128) (c : Fin 6656), X.z (ix2 r c) = x3 (ix2 ⟨128 * t.val + r.val, by omega⟩ c)
  dm : ∀ (r : Fin 128) (c : Fin 2048), X.dm (ix2 r c) = x6 (ix2 ⟨128 * t.val + r.val, by omega⟩ c)
  sinks : ∀ h : Fin 16, X.sinks (ix2 0 h) = x4 (ix1 h)

variable {x0 : S4096x1024.Idx → EReal} {x1 : S4096x256.Idx → EReal} {x3 : S4096x6656.Idx → EReal} {x4 : S16.Idx → EReal}
  {x6 : S4096x2048.Idx → EReal} {t : Fin 32} {i : grid0.Coords} {X : Ins Ideal} (H : Reads x0 x1 x3 x4 x6 t i X)
  (j : Fin 4) (p ι : Fin 2)
include H

/-- Where the mask lets a key through, the kernel's two key blocks are the reference's band. -/
theorem keys_eq (k : Fin 256) (h : 128 ≤ k.val ∨ 0 < t.val) (d : Fin 64) : keys X j (ix2 k (copy ι d))
    = val_main_v6 (F := Ideal) x1 (ix3 t k ⟨128 * j.val + (64 * ι.val + d.val), by omega⟩) := by
  rw [keys_at, Cert.ReferenceIdeal.Read.band_at]
  by_cases hk : k.val < 128
  · rw [dif_pos hk, dif_pos hk, dif_neg (by omega), H.kp (by omega)]; rfl
  · rw [dif_neg hk, dif_neg hk, H.kc]; rfl

theorem scores_eq (r : Fin 128) (k : Fin 256) : scores i X j (ix2 (row p ι r) k) = val_main_v53 (F := Ideal) x0 x1 (ix6 t j p ι r k) := by
  rw [scores_at, mask_at, Cert.ReferenceIdeal.Read.masked_at, Cert.ReferenceIdeal.Read.mask_at, select_if, select_if, H.point]
  by_cases h : (r.val < k.val ∧ k.val ≤ r.val + 128) ∧ (128 ≤ k.val ∨ 0 < t.val)
  · rw [if_pos h, if_pos h, Cert.ReferenceIdeal.Read.dots_at]
    refine congrArg (· * _) (Finset.sum_congr rfl fun d _ => ?_)
    rw [H.q, keys_eq H j ι k h.2 d]
    rfl
  · rw [if_neg h, if_neg h]

theorem sinkCol_eq (r : Fin 128) : sinkCol X j (ix2 (row p ι r) 0) = x4 (ix1 ⟨4 * j.val + 2 * p.val + ι.val, by omega⟩) := by
  rw [sinkCol_at, H.sinks]

theorem peaks_eq (r : Fin 128) : peaks i X j (ix2 (row p ι r) 0) = val_main_v59 (F := Ideal) x0 x1 x4 (ix6 t j p ι r 0) := by
  rw [peaks_at, Cert.ReferenceIdeal.Read.peaks_at, Cert.ReferenceIdeal.Read.sinks_at, sinkCol_eq H]
  simp only [scores_eq H]

theorem totals_eq (r : Fin 128) : totals i X j (ix2 (row p ι r) 0) = val_main_v68 (F := Ideal) x0 x1 x4 (ix6 t j p ι r 0) := by
  rw [totals_at, Cert.ReferenceIdeal.Read.totals_at, Cert.ReferenceIdeal.Read.sinks_at', sinkCol_eq H, peaks_eq H]
  simp only [scores_eq H]

theorem probs_eq (r : Fin 128) (k : Fin 256) : probs i X j (ix2 (row p ι r) k) = val_main_v70 (F := Ideal) x0 x1 x4 (ix6 t j p ι r k) := by
  rw [probs_at, Cert.ReferenceIdeal.Read.probs_at, scores_eq H, peaks_eq H, totals_eq H]

theorem dAtt_eq (r : Fin 128) (d : Fin 64) : dAtt X j p (ix2 r (copy ι d)) = val_main_v79 (F := Ideal) x3 x6 (ix6 t j ι d p r) := by
  rw [dAtt_at, Cert.ReferenceIdeal.Read.cot_at, H.dm, H.z]
  rfl

theorem dVals_eq (k : Fin 256) (d : Fin 64) : dVals i X j (ix2 k (copy ι d))
    = val_main_v82 (F := Ideal) x0 x1 x3 x4 x6 (ix3 t k ⟨128 * j.val + (64 * ι.val + d.val), by omega⟩) := by
  rw [dVals_at, Cert.ReferenceIdeal.Read.dVals_at]
  refine Finset.sum_congr rfl fun p _ => Finset.sum_congr rfl fun r _ => ?_
  rw [probs_eq H, dAtt_eq H, mul_comm]

end Cert.KernelIdeal.Bwd
end
-- ==== Proof.Host.lean ====
/- The arrays the call is handed, in terms of the arguments of the program, and the blocks each grid point sees of them. -/
module

public import proofs.«01_k».proof.Proof.Gen.KernelIdeal.Frame.Runs
public import Idealize.ShloMosaic.Lib.Claim
public import proofs.«01_k».proof.Proof.RefAt
public import Idealize.ShloMosaic.Lib.Pipeline.ValueKit.Point
public import Idealize.ShloMosaic.Lib.Pipeline.ValueKit
public import Idealize.ShloMosaic.Lib.StableHlo.ReadAt

@[expose] public section

set_option synthInstance.maxSize 4096

noncomputable section

namespace Cert.KernelIdeal.Bwd

open Cert.KernelIdeal Cert.KernelIdeal.Gen Idealize.ShloMosaic Idealize.ShloMosaic.TcCoe Idealize.SL.Sem
open Cert.ReferenceIdeal.Read (val_main_v2)

variable (m : (ℓ : Loc nD τ sig) → Buf (Elt Ideal) ℓ) (c : Dev nD)

/-- Every window's block index at every point. -/
theorem idx : ∀ t : Fin cfg0.N, win0_0.index t = ![0, 0] ∧ win0_1.index t = ![t.val, 0] ∧ win0_2.index t = ![t.val, 0]
    ∧ win0_3.index t = ![t.val - 1, 0] ∧ win0_7.index t = ![t.val, 0] ∧ win0_10.index t = ![t.val, 0]
    ∧ win0_16.index t = ![t.val, 0] ∧ win0_17.index t = ![t.val, 0] ∧ (grid0.coords t 0).val = t.val :=
  (by decide +kernel : ∀ t : Fin grid0.N, _)

theorem V_q : V m c main_v75 = m ((c : Thread nD τ).loc main_arg0) := by
  simp only [V, hostOps0, hostOps0_1, hostOps0_2, List.flatten_cons, List.flatten_nil, List.append_nil, List.cons_append, List.nil_append]
  after_reads_at
  rfl

theorem V_k (n : Fin 32) (r : Fin 128) (c' : Fin 512) : V m c main_v80 (ix2 ⟨128 * n.val + r.val, by omega⟩ c')
    = val_main_v2 (F := Ideal) (m ((c : Thread nD τ).loc main_arg1)) (ix3 n r c') := by
  simp only [V, hostOps0, hostOps0_1, hostOps0_2, List.flatten_cons, List.flatten_nil, List.append_nil, List.cons_append, List.nil_append]
  after_reads_at
  after_reads_at
  refine Eq.trans ?_ (Cert.ReferenceIdeal.Read.twice_at (m ((c : Thread nD τ).loc main_arg1)) n r c').symm
  split <;> (refine Cert.ReferenceIdeal.Read.at_congr (a := 4096) (b := 256) (α := EReal) (m ((c : Thread nD τ).loc main_arg1)) ?_ ?_ <;> dsimp only <;> omega)

theorem V_sinks (h : Fin 16) : V m c main_v86 (ix2 0 h) = m ((c : Thread nD τ).loc main_arg4) (ix1 h) := by
  simp only [V, hostOps0, hostOps0_1, hostOps0_2, List.flatten_cons, List.flatten_nil, List.append_nil, List.cons_append, List.nil_append]
  after_reads_at

theorem iblk_q (t : Fin cfg0.N) (ht : t.val < 32) (r : Fin 128) (c' : Fin 1024) :
    iblk m c 1 t (ix2 r c') = V m c main_v75 (ix2 ⟨128 * t.val + r.val, by omega⟩ c') := by
  unfold iblk
  generalize V m c = v
  blk_ext [idx t]

theorem iblk_kc (t : Fin cfg0.N) (ht : t.val < 32) (r : Fin 128) (c' : Fin 512) :
    iblk m c 2 t (ix2 r c') = V m c main_v80 (ix2 ⟨128 * t.val + r.val, by omega⟩ c') := by
  unfold iblk
  generalize V m c = v
  blk_ext [idx t]

theorem iblk_kp (t : Fin cfg0.N) (ht : t.val < 32) (r : Fin 128) (c' : Fin 512) :
    iblk m c 3 t (ix2 r c') = V m c main_v80 (ix2 ⟨128 * (t.val - 1) + r.val, by omega⟩ c') := by
  unfold iblk
  generalize V m c = v
  blk_ext [idx t]

theorem iblk_z (t : Fin cfg0.N) (ht : t.val < 32) (r : Fin 128) (c' : Fin 6656) :
    iblk m c 7 t (ix2 r c') = m ((c : Thread nD τ).loc main_arg3) (ix2 ⟨128 * t.val + r.val, by omega⟩ c') := by
  rw [← V_main_arg3 m c]
  unfold iblk
  generalize V m c = v
  blk_ext [idx t]

theorem iblk_dm (t : Fin cfg0.N) (ht : t.val < 32) (r : Fin 128) (c' : Fin 2048) :
    iblk m c 10 t (ix2 r c') = m ((c : Thread nD τ).loc main_arg6) (ix2 ⟨128 * t.val + r.val, by omega⟩ c') := by
  rw [← V_main_arg6 m c]
  unfold iblk
  generalize V m c = v
  blk_ext [idx t]

theorem iblk_sinks (t : Fin cfg0.N) (h : Fin 16) :
    iblk m c 0 t (ix2 0 h) = V m c main_v86 (ix2 0 h) := by
  unfold iblk
  generalize V m c = v
  blk_ext [idx t]

end Cert.KernelIdeal.Bwd
end
-- ==== Proof.Value.lean ====
/- What the call leaves in the two arrays of the values' gradient: at every index the reference's gradient there. -/
module

public import proofs.«01_k».proof.Proof.Frame
public import proofs.«01_k».proof.Proof.Attn
public import proofs.«01_k».proof.Proof.Host
public import Idealize.ShloMosaic.Lib.Pipeline.ReadBack
public import Idealize.ShloMosaic.Lib.Pipeline.ValueKit.Point

@[expose] public section

set_option synthInstance.maxSize 4096
set_option maxRecDepth 16384

noncomputable section

namespace Cert.KernelIdeal.Bwd

open Cert.KernelIdeal Cert.KernelIdeal.Gen Idealize.ShloMosaic Idealize.ShloMosaic.TcCoe Idealize.SL.Sem
open Cert.ReferenceIdeal.Read (val_main_v2 val_main_v82 val_main_v84 val_main_v86)

/-- A lane of a head's 128 columns is a copy's lane. -/
theorem eq_copy (c : Fin 128) : c = copy ⟨c.val / 64, by omega⟩ ⟨c.val % 64, by omega⟩ :=
  Fin.ext (by show c.val = 64 * (c.val / 64) + c.val % 64; omega)

/-- Four stores side by side, read at an index. -/
theorem four_at (f : Fin 4 → FVec Ideal S128x128 .f32) (G : S128x512.Idx → Ideal .f32)
    (h : ∀ (j : Fin 4) (r : Fin 128) (c : Fin 128), f j (ix2 r c) = G (ix2 r ⟨128 * j.val + c.val, by omega⟩)) (y : S128x512.Idx) :
    View.canon (Val := Elt Ideal) (e := .f32) (four f) y = G y := by
  have piece : ∀ (j : Fin 4) (o : ℕ) (ho : o = 128 * j.val) (inb) (x : (Rect.unit (s := S128x512) ![0, o] S128x128.size inb).shape.Idx),
      f j x = G ((Rect.unit (s := S128x512) ![0, o] S128x128.size inb).emb x) := by
    intro j o ho inb x
    refine (congrArg (f j) (eq_ix2 (n0 := 128) (n1 := 128) x)).trans ((h j (x 0) (x 1)).trans (congrArg G (funext fun a => Fin.ext ?_)))
    refine Eq.trans ?_ (Rect.idx_unit_val ..).symm
    match a with
    | ⟨0, _⟩ => exact (Nat.zero_add _).symm
    | ⟨1, _⟩ => subst ho; rfl
  exact View.canon_apply_of_pieces G (four f)
    (View.PiecesOf.mem ⟨piece 3 384 rfl (inb_cols (by omega)), piece 2 256 rfl (inb_cols (by omega)),
      piece 1 128 rfl (inb_cols (by omega)), piece 0 0 rfl (inb_cols (by omega)), trivial⟩) y
    (View.cover_of_tiledL (four f) S128x128.size (by sl_kernel_rfl) y)

section point

variable {x0 : S4096x1024.Idx → EReal} {x1 : S4096x256.Idx → EReal} {x3 : S4096x6656.Idx → EReal} {x4 : S16.Idx → EReal}
  {x6 : S4096x2048.Idx → EReal} {t : Fin 32} {i : grid0.Coords} {X : Ins Ideal}

theorem dvc_at (j : Fin 4) (r c : Fin 128) : dvc i X j (ix2 r c) = dVals i X j (ix2 ⟨128 + r.val, by omega⟩ c) := by
  unfold dvc k0_pay42
  generalize dVals i X j = y
  pointwise

theorem dvp_at (j : Fin 4) (r c : Fin 128) : dvp i X j (ix2 r c) = dVals i X j (ix2 ⟨r.val, by omega⟩ c) := by
  unfold dvp k0_pay41
  generalize dVals i X j = y
  pointwise

theorem dVals_col (H : Reads x0 x1 x3 x4 x6 t i X) (j : Fin 4) (k : Fin 256) (c : Fin 128) : dVals i X j (ix2 k c)
    = val_main_v82 (F := Ideal) x0 x1 x3 x4 x6 (ix3 t k ⟨128 * j.val + c.val, by omega⟩) := by
  refine (congrArg (fun c => dVals i X j (ix2 k c)) (eq_copy c)).trans ((dVals_eq H j _ k _).trans
    (congrArg (fun c => val_main_v82 (F := Ideal) x0 x1 x3 x4 x6 (ix3 t k c)) (Fin.ext ?_)))
  dsimp only
  omega

theorem dvc_block (H : Reads x0 x1 x3 x4 x6 t i X) (y : S128x512.Idx) : dvcBlock i X y
    = val_main_v84 (F := Ideal) x0 x1 x3 x4 x6 (ix2 ⟨128 * t.val + (show Fin 128 from y 0).val, by omega⟩ (y 1)) :=
  four_at (dvc i X) (fun y => val_main_v84 (F := Ideal) x0 x1 x3 x4 x6 (ix2 ⟨128 * t.val + (show Fin 128 from y 0).val, by omega⟩ (y 1)))
    (fun j r c => (dvc_at j r c).trans ((dVals_col H j _ c).trans (Cert.ReferenceIdeal.Read.current_at x0 x1 x3 x4 x6 t r _).symm)) y

theorem dvp_block (H : Reads x0 x1 x3 x4 x6 t i X) (y : S128x512.Idx) : dvpBlock i X y
    = val_main_v86 (F := Ideal) x0 x1 x3 x4 x6 (ix2 ⟨128 * t.val + (show Fin 128 from y 0).val, by omega⟩ (y 1)) :=
  four_at (dvp i X) (fun y => val_main_v86 (F := Ideal) x0 x1 x3 x4 x6 (ix2 ⟨128 * t.val + (show Fin 128 from y 0).val, by omega⟩ (y 1)))
    (fun j r c => (dvp_at j r c).trans ((dVals_col H j _ c).trans (Cert.ReferenceIdeal.Read.previous_at x0 x1 x3 x4 x6 t r _).symm)) y

end point

variable (m : (ℓ : Loc nD τ sig) → Buf (Elt Ideal) ℓ) (c : Dev nD)

set_option maxHeartbeats 4000000 in
theorem reads (t : Fin cfg0.N) (ht : t.val < 32) : Reads (m ((c : Thread nD τ).loc main_arg0)) (m ((c : Thread nD τ).loc main_arg1))
    (m ((c : Thread nD τ).loc main_arg3)) (m ((c : Thread nD τ).loc main_arg4)) (m ((c : Thread nD τ).loc main_arg6))
    ⟨t.val, ht⟩ (grid0.coords t) (ins m c t) := by
  have h0 := (idx t).2.2.2.2.2.2.2.2
  have hq := fun r c' => (iblk_q m c t ht r c').trans (congrFun (V_q m c) _)
  have hkc := fun r c' => (iblk_kc m c t ht r c').trans (V_k m c ⟨t.val, ht⟩ r c')
  have hkp := fun r c' => (iblk_kp m c t ht r c').trans (V_k m c ⟨t.val - 1, by omega⟩ r c')
  have hz := fun r c' => iblk_z m c t ht r c'
  have hdm := fun r c' => iblk_dm m c t ht r c'
  have hs := fun h => (iblk_sinks m c t h).trans (V_sinks m c h)
  refine ⟨h0, hq, ?_, fun _ => ?_, hz, hdm, hs⟩
  · generalize val_main_v2 (F := Ideal) (m ((c : Thread nD τ).loc main_arg1)) = w at hkc ⊢
    exact hkc
  · generalize val_main_v2 (F := Ideal) (m ((c : Thread nD τ).loc main_arg1)) = w at hkp ⊢
    exact hkp

theorem point_lt (t : Fin cfg0.N) : t.val < 32 := lt_of_lt_of_eq t.isLt (show cfg0.N = 32 by decide +kernel)

theorem final_dvc : (dats m 0 c).arrAt 16 cfg0.N
    = val_main_v84 (F := Ideal) (m ((c : Thread nD τ).loc main_arg0)) (m ((c : Thread nD τ).loc main_arg1))
        (m ((c : Thread nD τ).loc main_arg3)) (m ((c : Thread nD τ).loc main_arg4)) (m ((c : Thread nD τ).loc main_arg6)) := by
  refine (dats m 0 c).arrAt_eq_of_covers 16 _ (by decide +kernel) fun t hf y => ?_
  blk_simp
  rw [after16]
  refine (dvc_block (reads m c t (point_lt t)) y).trans ?_
  generalize val_main_v84 (F := Ideal) _ _ _ _ _ = g
  blk_ext [idx t]

theorem final_dvp : (dats m 0 c).arrAt 17 cfg0.N
    = val_main_v86 (F := Ideal) (m ((c : Thread nD τ).loc main_arg0)) (m ((c : Thread nD τ).loc main_arg1))
        (m ((c : Thread nD τ).loc main_arg3)) (m ((c : Thread nD τ).loc main_arg4)) (m ((c : Thread nD τ).loc main_arg6)) := by
  refine (dats m 0 c).arrAt_eq_of_covers 17 _ (by decide +kernel) fun t hf y => ?_
  blk_simp
  rw [after17]
  refine (dvp_block (reads m c t (point_lt t)) y).trans ?_
  generalize val_main_v86 (F := Ideal) _ _ _ _ _ = g
  blk_ext [idx t]

end Cert.KernelIdeal.Bwd

end
-- ==== Proof.GradInValue.lean ====
/- What the call leaves in its array: at every index the reference's gradient of the first weight there. -/
module

public import proofs.«01_k».proof.Proof.Gen.GradInIdeal.Value
public import proofs.«01_k».proof.Proof.Gen.GradInReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt

@[expose] public section

set_option synthInstance.maxSize 4096
set_option maxRecDepth 16384

noncomputable section

namespace Cert.GradInIdeal.Tie

open Cert.GradInIdeal Cert.GradInIdeal.Gen Idealize.ShloMosaic Idealize.ShloMosaic.TcCoe Idealize.SL.Sem

/-- The reference, index by index. -/
theorem reference_at (x0 : S4096x2048.Idx → EReal) (x2 : S4096x6656.Idx → EReal) (j : Fin 8) (r : Fin 832) (c : Fin 2048) :
    Cert.GradInReferenceIdeal.Read.val_main_v5 (F := Ideal) x0 x2 (ix3 j r c)
      = ∑ k : Fin 4096, x2 (ix2 k ⟨832 * j.val + r.val, by omega⟩) * x0 (ix2 k c) := by
  refine (Cert.GradInReferenceIdeal.Read.val_main_v4_apply (F := Ideal) x0 x2 (ix3 j r c)).trans ?_
  refine (Cert.GradInReferenceIdeal.Read.val_main_v3_apply (F := Ideal) x0 x2 _).trans ?_
  refine (Cert.GradInReferenceIdeal.Read.val_main_v2_apply (F := Ideal) x0 x2 _).trans ?_
  refine (Cert.GradInReferenceIdeal.Read.val_main_v1_apply x0 x2 _).trans ?_
  refine Finset.sum_congr rfl fun k _ => congrArg₂ _ (congrArg x2 (funext fun a => Fin.ext ?_)) (congrArg x0 (funext fun a => Fin.ext ?_))
  · match a with
    | ⟨0, _⟩ => rfl
    | ⟨1, _⟩ => show ((j.val * 832 + r.val) * 2048 + c.val) / 2048 = 832 * j.val + r.val; omega
  · match a with
    | ⟨0, _⟩ => rfl
    | ⟨1, _⟩ => show ((j.val * 832 + r.val) * 2048 + c.val) % 2048 = c.val; omega

/-- One point's product, index by index. -/
theorem product_at (a : Vec Ideal S832x4096 .bf16) (b : Vec Ideal S4096x2048 .bf16) (r : Fin 832) (c : Fin 2048) :
    k0_pay1 a b (ix3 0 r c) = ∑ k : Fin 4096, a (ix2 r k) * b (ix2 k c) := by
  unfold k0_pay1
  pointwise

theorem left_in (a : Vec Ideal S832x4096 .bf16) (b : Vec Ideal S4096x2048 .bf16) : out0_2 a b = k0_pay1 a b := by
  unfold out0_2
  rw [View.canon_unit_zero (by funext a; revert a; decide), View.ld_unit_zero (by funext a; revert a; decide), View.ld_unit_zero (by funext a; revert a; decide)]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0, 0] :=
  (by decide +kernel : ∀ t : Fin grid0.N, _)

theorem point_lt (t : Fin cfg0.N) : t.val < 8 := lt_of_lt_of_eq t.isLt (show cfg0.N = 8 by decide +kernel)

theorem V_dzt (r : Fin 6656) (k : Fin 4096) : V m c main_v1 (ix2 r k) = m ((c : Thread nD τ).loc main_arg2) (ix2 k r) := by
  simp only [V, hostOps0]
  after_reads_at

theorem V_h : V m c main_v2 = m ((c : Thread nD τ).loc main_arg0) := by
  simp only [V, hostOps0]
  after_reads_at
  rfl

theorem iblk_dzt (t : Fin cfg0.N) (r : Fin 832) (k : Fin 4096) :
    iblk m c 0 t (ix2 r k) = V m c main_v1 (ix2 ⟨832 * t.val + r.val, by have := point_lt t; omega⟩ k) := by
  unfold iblk
  generalize V m c = v
  blk_ext [idx t]

theorem iblk_h (t : Fin cfg0.N) (k : Fin 4096) (c' : Fin 2048) : iblk m c 1 t (ix2 k c') = V m c main_v2 (ix2 k c') := by
  unfold iblk
  generalize V m c = v
  blk_ext [idx t]

theorem block (t : Fin cfg0.N) (y : S1x832x2048.Idx) : out0_2 (iblk m c 0 t) (iblk m c 1 t) y
    = Cert.GradInReferenceIdeal.Read.val_main_v5 (F := Ideal) (m ((c : Thread nD τ).loc main_arg0)) (m ((c : Thread nD τ).loc main_arg2))
        (ix3 ⟨t.val, point_lt t⟩ (y 1) (y 2)) := by
  rw [left_in]
  have e : y = ix3 0 (show Fin 832 from y 1) (show Fin 2048 from y 2) := funext fun a => by
    match a with
    | ⟨0, _⟩ => exact Fin.ext (by have : (y 0).val < 1 := (y 0).isLt; show (y 0).val = 0; omega)
    | ⟨1, _⟩ => rfl
    | ⟨2, _⟩ => rfl
  refine (congrArg (k0_pay1 _ _) e).trans ((product_at _ _ _ _).trans (Eq.trans ?_ (reference_at _ _ _ _ _).symm))
  refine Finset.sum_congr rfl fun k _ => congrArg₂ _ ((iblk_dzt m c t _ k).trans (V_dzt m c _ k)) ((iblk_h m c t k _).trans ?_)
  rw [V_h]

theorem final : (dats m 0 c).arrAt 2 cfg0.N
    = Cert.GradInReferenceIdeal.Read.val_main_v5 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  refine (block m c t y).trans ?_
  generalize Cert.GradInReferenceIdeal.Read.val_main_v5 (F := Ideal) _ _ = g
  blk_ext [idx t]

end Cert.GradInIdeal.Tie
end
-- ==== Proof.GradOutValue.lean ====
/- What the call leaves in its array: at every index the reference's gradient of the second weight there. -/
module

public import proofs.«01_k».proof.Proof.Gen.GradOutIdeal.Value
public import proofs.«01_k».proof.Proof.Gen.GradOutReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt

@[expose] public section

set_option synthInstance.maxSize 4096
set_option maxRecDepth 16384

noncomputable section

namespace Cert.GradOutIdeal.Tie

open Cert.GradOutIdeal Cert.GradOutIdeal.Gen Idealize.ShloMosaic Idealize.ShloMosaic.TcCoe Idealize.SL.Sem

/-- The reference, index by index. -/
theorem reference_at (x0 x2 : S4096x2048.Idx → EReal) (r c : Fin 2048) :
    Cert.GradOutReferenceIdeal.Read.val_main_v3 (F := Ideal) x0 x2 (ix2 r c) = ∑ k : Fin 4096, x0 (ix2 k r) * x2 (ix2 k c) := by
  refine (Cert.GradOutReferenceIdeal.Read.val_main_v2_apply (F := Ideal) x0 x2 _).trans ?_
  refine (Cert.GradOutReferenceIdeal.Read.val_main_v1_apply x0 x2 _).trans ?_
  refine Finset.sum_congr rfl fun k _ => (mul_comm _ _).trans (congrArg₂ _ (congrArg x0 (funext fun a => Fin.ext ?_)) (congrArg x2 (funext fun a => Fin.ext ?_)))
  · match a with
    | ⟨0, _⟩ => rfl
    | ⟨1, _⟩ => rfl
  · match a with
    | ⟨0, _⟩ => rfl
    | ⟨1, _⟩ => rfl

/-- One point's product, index by index. -/
theorem product_at (a : Vec Ideal S2048x4096 .bf16) (b : Vec Ideal S4096x512 .bf16) (r : Fin 2048) (c : Fin 512) :
    k0_pay1 a b (ix2 r c) = ∑ k : Fin 4096, a (ix2 r k) * b (ix2 k c) := by
  unfold k0_pay1
  pointwise

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

theorem point_lt (t : Fin cfg0.N) : t.val < 4 := lt_of_lt_of_eq t.isLt (show cfg0.N = 4 by decide +kernel)

theorem left_in (t : Fin cfg0.N) : outsAt0 m c t = k0_pay1 (iblk m c 0 t) (iblk m c 1 t) := by
  unfold outsAt0
  frame_out

theorem V_mixt (r : Fin 2048) (k : Fin 4096) : V m c main_v1 (ix2 r k) = m ((c : Thread nD τ).loc main_arg0) (ix2 k r) := by
  simp only [V, hostOps0]
  after_reads_at

theorem V_dx : V m c main_v2 = m ((c : Thread nD τ).loc main_arg2) := by
  simp only [V, hostOps0]
  after_reads_at
  rfl

theorem iblk_mixt (t : Fin cfg0.N) (r : Fin 2048) (k : Fin 4096) : iblk m c 0 t (ix2 r k) = V m c main_v1 (ix2 r k) := by
  unfold iblk
  generalize V m c = v
  blk_ext [idx t]

theorem iblk_dx (t : Fin cfg0.N) (k : Fin 4096) (c' : Fin 512) :
    iblk m c 1 t (ix2 k c') = V m c main_v2 (ix2 k ⟨512 * t.val + c'.val, by have := point_lt t; omega⟩) := by
  unfold iblk
  generalize V m c = v
  blk_ext [idx t]

theorem block (t : Fin cfg0.N) (y : S2048x512.Idx) : outsAt0 m c t y
    = Cert.GradOutReferenceIdeal.Read.val_main_v3 (F := Ideal) (m ((c : Thread nD τ).loc main_arg0)) (m ((c : Thread nD τ).loc main_arg2))
        (ix2 (y 0) ⟨512 * t.val + (show Fin 512 from y 1).val, by have := point_lt t; omega⟩) := by
  rw [left_in]
  refine (congrArg (k0_pay1 _ _) (eq_ix2 (n0 := 2048) (n1 := 512) y)).trans ((product_at _ _ _ _).trans (Eq.trans ?_ (reference_at _ _ _ _).symm))
  refine Finset.sum_congr rfl fun k _ => congrArg₂ _ ((iblk_mixt m c t _ k).trans (V_mixt m c _ k)) ((iblk_dx m c t k _).trans ?_)
  rw [V_dx]

theorem final : (dats m 0 c).arrAt 2 cfg0.N
    = Cert.GradOutReferenceIdeal.Read.val_main_v3 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  refine (block m c t y).trans ?_
  generalize Cert.GradOutReferenceIdeal.Read.val_main_v3 (F := Ideal) _ _ = g
  blk_ext [idx t]

end Cert.GradOutIdeal.Tie
end
-- ==== Proof.OutBwdValue.lean ====
/- What the call leaves in its array: at every index the reference's gradient of the mixed activations there. -/
module

public import proofs.«01_k».proof.Proof.Gen.OutBwdIdeal.Value
public import proofs.«01_k».proof.Proof.Gen.OutBwdReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt

@[expose] public section

set_option synthInstance.maxSize 4096
set_option maxRecDepth 16384

noncomputable section

namespace Cert.OutBwdIdeal.Tie

open Cert.OutBwdIdeal Cert.OutBwdIdeal.Gen Idealize.ShloMosaic Idealize.ShloMosaic.TcCoe Idealize.SL.Sem

/-- The reference, index by index. -/
theorem reference_at (x1 : S2048x2048.Idx → EReal) (x2 : S4096x2048.Idx → EReal) (r : Fin 4096) (c : Fin 2048) :
    Cert.OutBwdReferenceIdeal.Read.val_main_v1 (F := Ideal) x1 x2 (ix2 r c) = ∑ k : Fin 2048, x2 (ix2 r k) * x1 (ix2 c k) := by
  refine (Cert.OutBwdReferenceIdeal.Read.val_main_v1_apply x1 x2 _).trans ?_
  refine Finset.sum_congr rfl fun k _ => congrArg₂ _ (congrArg x2 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

/-- One point's product, index by index. -/
theorem product_at (a : Vec Ideal S512x2048 .bf16) (b : Vec Ideal S2048x2048 .bf16) (r : Fin 512) (c : Fin 2048) :
    k0_pay1 a b (ix2 r c) = ∑ k : Fin 2048, a (ix2 r k) * b (ix2 c k) := by
  unfold k0_pay1
  pointwise

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem point_lt (t : Fin cfg0.N) : t.val < 8 := lt_of_lt_of_eq t.isLt (show cfg0.N = 8 by decide +kernel)

theorem left_in (t : Fin cfg0.N) : outsAt0 m c t = k0_pay1 (iblk m c 0 t) (iblk m c 1 t) := by
  unfold outsAt0
  frame_out

theorem V_dx : V m c main_v0 = m ((c : Thread nD τ).loc main_arg2) := by
  simp only [V, hostOps0]
  after_reads_at
  rfl

theorem V_w : V m c main_v1 = m ((c : Thread nD τ).loc main_arg1) := by
  simp only [V, hostOps0]
  after_reads_at
  rfl

theorem iblk_dx (t : Fin cfg0.N) (r : Fin 512) (k : Fin 2048) :
    iblk m c 0 t (ix2 r k) = V m c main_v0 (ix2 ⟨512 * t.val + r.val, by have := point_lt t; omega⟩ k) := by
  unfold iblk
  generalize V m c = v
  blk_ext [idx t]

theorem iblk_w (t : Fin cfg0.N) (k c' : Fin 2048) : iblk m c 1 t (ix2 k c') = V m c main_v1 (ix2 k c') := by
  unfold iblk
  generalize V m c = v
  blk_ext [idx t]

theorem block (t : Fin cfg0.N) (y : S512x2048.Idx) : outsAt0 m c t y
    = Cert.OutBwdReferenceIdeal.Read.val_main_v1 (F := Ideal) (m ((c : Thread nD τ).loc main_arg1)) (m ((c : Thread nD τ).loc main_arg2))
        (ix2 ⟨512 * t.val + (show Fin 512 from y 0).val, by have := point_lt t; omega⟩ (y 1)) := by
  rw [left_in]
  refine (congrArg (k0_pay1 _ _) (eq_ix2 (n0 := 512) (n1 := 2048) y)).trans ((product_at _ _ _ _).trans (Eq.trans ?_ (reference_at _ _ _ _).symm))
  refine Finset.sum_congr rfl fun k _ => congrArg₂ _ ((iblk_dx m c t _ k).trans ?_) ((iblk_w m c t _ k).trans ?_)
  · rw [V_dx]
  · rw [V_w]

theorem final : (dats m 0 c).arrAt 2 cfg0.N
    = Cert.OutBwdReferenceIdeal.Read.val_main_v1 (F := Ideal) (m ((c : Thread nD τ).loc main_arg1)) (m ((c : Thread nD τ).loc main_arg2)) := by
  refine (dats m 0 c).arrAt_eq_of_covers 2 _ (by decide +kernel) fun t hf y => ?_
  blk_simp
  rw [after0_2]
  refine (block m c t y).trans ?_
  generalize Cert.OutBwdReferenceIdeal.Read.val_main_v1 (F := Ideal) _ _ = g
  blk_ext [idx t]

end Cert.OutBwdIdeal.Tie
end
-- ==== Proof.GateGradValue.lean ====
/- What the call leaves in its array: at every index the reference's gradient of the gate weight there. -/
module

public import proofs.«01_k».proof.Proof.Gen.GateGradIdeal.Value
public import proofs.«01_k».proof.Proof.Gen.GateGradReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt

@[expose] public section

set_option synthInstance.maxSize 4096
set_option maxRecDepth 16384

noncomputable section

namespace Cert.GateGradIdeal.Tie

open Cert.GateGradIdeal Cert.GateGradIdeal.Gen Idealize.ShloMosaic Idealize.ShloMosaic.TcCoe Idealize.SL.Sem

/-- The reference, index by index. -/
theorem reference_at (x0 x2 : S4096x2048.Idx → EReal) (r c : Fin 2048) :
    Cert.GateGradReferenceIdeal.Read.val_main_v3 (F := Ideal) x0 x2 (ix2 r c) = ∑ k : Fin 4096, x0 (ix2 k r) * x2 (ix2 k c) := by
  refine (Cert.GateGradReferenceIdeal.Read.val_main_v2_apply (F := Ideal) x0 x2 _).trans ?_
  refine (Cert.GateGradReferenceIdeal.Read.val_main_v1_apply x0 x2 _).trans ?_
  refine Finset.sum_congr rfl fun k _ => (mul_comm _ _).trans (congrArg₂ _ (congrArg x0 (funext fun a => Fin.ext ?_)) (congrArg x2 (funext fun a => Fin.ext ?_)))
  · match a with
    | ⟨0, _⟩ => rfl
    | ⟨1, _⟩ => rfl
  · match a with
    | ⟨0, _⟩ => rfl
    | ⟨1, _⟩ => rfl

/-- One point's product, index by index. -/
theorem product_at (a : Vec Ideal S2048x4096 .bf16) (b : Vec Ideal S4096x512 .bf16) (r : Fin 2048) (c : Fin 512) :
    k0_pay1 a b (ix2 r c) = ∑ k : Fin 4096, a (ix2 r k) * b (ix2 k c) := by
  unfold k0_pay1
  pointwise

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

theorem point_lt (t : Fin cfg0.N) : t.val < 4 := lt_of_lt_of_eq t.isLt (show cfg0.N = 4 by decide +kernel)

theorem left_in (t : Fin cfg0.N) : outsAt0 m c t = k0_pay1 (iblk m c 0 t) (iblk m c 1 t) := by
  unfold outsAt0
  frame_out

theorem V_ht (r : Fin 2048) (k : Fin 4096) : V m c main_v1 (ix2 r k) = m ((c : Thread nD τ).loc main_arg0) (ix2 k r) := by
  simp only [V, hostOps0]
  after_reads_at

theorem V_dgp : V m c main_v2 = m ((c : Thread nD τ).loc main_arg2) := by
  simp only [V, hostOps0]
  after_reads_at
  rfl

theorem iblk_ht (t : Fin cfg0.N) (r : Fin 2048) (k : Fin 4096) : iblk m c 0 t (ix2 r k) = V m c main_v1 (ix2 r k) := by
  unfold iblk
  generalize V m c = v
  blk_ext [idx t]

theorem iblk_dgp (t : Fin cfg0.N) (k : Fin 4096) (c' : Fin 512) :
    iblk m c 1 t (ix2 k c') = V m c main_v2 (ix2 k ⟨512 * t.val + c'.val, by have := point_lt t; omega⟩) := by
  unfold iblk
  generalize V m c = v
  blk_ext [idx t]

theorem block (t : Fin cfg0.N) (y : S2048x512.Idx) : outsAt0 m c t y
    = Cert.GateGradReferenceIdeal.Read.val_main_v3 (F := Ideal) (m ((c : Thread nD τ).loc main_arg0)) (m ((c : Thread nD τ).loc main_arg2))
        (ix2 (y 0) ⟨512 * t.val + (show Fin 512 from y 1).val, by have := point_lt t; omega⟩) := by
  rw [left_in]
  refine (congrArg (k0_pay1 _ _) (eq_ix2 (n0 := 2048) (n1 := 512) y)).trans ((product_at _ _ _ _).trans (Eq.trans ?_ (reference_at _ _ _ _).symm))
  refine Finset.sum_congr rfl fun k _ => congrArg₂ _ ((iblk_ht m c t _ k).trans (V_ht m c _ k)) ((iblk_dgp m c t k _).trans ?_)
  rw [V_dgp]

theorem final : (dats m 0 c).arrAt 2 cfg0.N
    = Cert.GateGradReferenceIdeal.Read.val_main_v3 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  refine (block m c t y).trans ?_
  generalize Cert.GateGradReferenceIdeal.Read.val_main_v3 (F := Ideal) _ _ = g
  blk_ext [idx t]

end Cert.GateGradIdeal.Tie
end
-- ==== Proof.ProjGradValue.lean ====
/- What the call leaves in its array: at every index the reference's gradient of the embedding projection there. -/
module

public import proofs.«01_k».proof.Proof.Gen.ProjGradIdeal.Value
public import proofs.«01_k».proof.Proof.Gen.ProjGradReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt

@[expose] public section

set_option synthInstance.maxSize 4096
set_option maxRecDepth 16384

noncomputable section

namespace Cert.ProjGradIdeal.Tie

open Cert.ProjGradIdeal Cert.ProjGradIdeal.Gen Idealize.ShloMosaic Idealize.ShloMosaic.TcCoe Idealize.SL.Sem

/-- The reference, index by index. -/
theorem reference_at (x0 : S4096x256.Idx → EReal) (x2 : S4096x2048.Idx → EReal) (r : Fin 256) (c : Fin 2048) :
    Cert.ProjGradReferenceIdeal.Read.val_main_v3 (F := Ideal) x0 x2 (ix2 r c) = ∑ k : Fin 4096, x0 (ix2 k r) * x2 (ix2 k c) := by
  refine (Cert.ProjGradReferenceIdeal.Read.val_main_v2_apply (F := Ideal) x0 x2 _).trans ?_
  refine (Cert.ProjGradReferenceIdeal.Read.val_main_v1_apply x0 x2 _).trans ?_
  refine Finset.sum_congr rfl fun k _ => (mul_comm _ _).trans (congrArg₂ _ (congrArg x0 (funext fun a => Fin.ext ?_)) (congrArg x2 (funext fun a => Fin.ext ?_)))
  · match a with
    | ⟨0, _⟩ => rfl
    | ⟨1, _⟩ => rfl
  · match a with
    | ⟨0, _⟩ => rfl
    | ⟨1, _⟩ => rfl

/-- One point's product, index by index. -/
theorem product_at (a : Vec Ideal S256x4096 .bf16) (b : Vec Ideal S4096x512 .bf16) (r : Fin 256) (c : Fin 512) :
    k0_pay1 a b (ix2 r c) = ∑ k : Fin 4096, a (ix2 r k) * b (ix2 k c) := by
  unfold k0_pay1
  pointwise

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

theorem point_lt (t : Fin cfg0.N) : t.val < 4 := lt_of_lt_of_eq t.isLt (show cfg0.N = 4 by decide +kernel)

theorem left_in (t : Fin cfg0.N) : outsAt0 m c t = k0_pay1 (iblk m c 0 t) (iblk m c 1 t) := by
  unfold outsAt0
  frame_out

theorem V_et (r : Fin 256) (k : Fin 4096) : V m c main_v1 (ix2 r k) = m ((c : Thread nD τ).loc main_arg0) (ix2 k r) := by
  simp only [V, hostOps0]
  after_reads_at

theorem V_dep : V m c main_v2 = m ((c : Thread nD τ).loc main_arg2) := by
  simp only [V, hostOps0]
  after_reads_at
  rfl

theorem iblk_et (t : Fin cfg0.N) (r : Fin 256) (k : Fin 4096) : iblk m c 0 t (ix2 r k) = V m c main_v1 (ix2 r k) := by
  unfold iblk
  generalize V m c = v
  blk_ext [idx t]

theorem iblk_dep (t : Fin cfg0.N) (k : Fin 4096) (c' : Fin 512) :
    iblk m c 1 t (ix2 k c') = V m c main_v2 (ix2 k ⟨512 * t.val + c'.val, by have := point_lt t; omega⟩) := by
  unfold iblk
  generalize V m c = v
  blk_ext [idx t]

theorem block (t : Fin cfg0.N) (y : S256x512.Idx) : outsAt0 m c t y
    = Cert.ProjGradReferenceIdeal.Read.val_main_v3 (F := Ideal) (m ((c : Thread nD τ).loc main_arg0)) (m ((c : Thread nD τ).loc main_arg2))
        (ix2 (y 0) ⟨512 * t.val + (show Fin 512 from y 1).val, by have := point_lt t; omega⟩) := by
  rw [left_in]
  refine (congrArg (k0_pay1 _ _) (eq_ix2 (n0 := 256) (n1 := 512) y)).trans ((product_at _ _ _ _).trans (Eq.trans ?_ (reference_at _ _ _ _).symm))
  refine Finset.sum_congr rfl fun k _ => congrArg₂ _ ((iblk_et m c t _ k).trans (V_et m c _ k)) ((iblk_dep m c t k _).trans ?_)
  rw [V_dep]

theorem final : (dats m 0 c).arrAt 2 cfg0.N
    = Cert.ProjGradReferenceIdeal.Read.val_main_v3 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  refine (block m c t y).trans ?_
  generalize Cert.ProjGradReferenceIdeal.Read.val_main_v3 (F := Ideal) _ _ = g
  blk_ext [idx t]

end Cert.ProjGradIdeal.Tie
end
-- ==== Proof.FwdOutValue.lean ====
/- What the call leaves in its three arrays: at every index the reference's block input, and its normalized form as it stands and transposed. -/
module

public import proofs.«01_k».proof.Proof.Gen.FwdOutIdeal.Value
public import proofs.«01_k».proof.Proof.Gen.FwdOutReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt

@[expose] public section

set_option synthInstance.maxSize 4096
set_option maxRecDepth 16384

noncomputable section

namespace Cert.FwdOutIdeal.Tie

open Cert.FwdOutIdeal Cert.FwdOutIdeal.Gen Idealize.ShloMosaic Idealize.ShloMosaic.TcCoe Idealize.SL.Sem

/-- One row's normalized entry: the entry over the root of the row's mean square, times the gain. -/
def normed (f : Fin 2048 → EReal) (g : EReal) (c : Fin 2048) : EReal :=
  FloatOps.mulf (F := Ideal) (φ := .f32) (FloatOps.mulf (F := Ideal) (φ := .f32) (f c) (FloatOps.rsqrt (F := Ideal) (φ := .f32) (FloatOps.addf (F := Ideal) (φ := .f32)
    (FloatOps.divf (F := Ideal) (φ := .f32) (∑ k : Fin 2048, f k * f k) (FloatOps.ofBits (F := Ideal) .f32 0x45000000#32)) (FloatOps.ofBits (F := Ideal) .f32 0x358637BD#32)))) g

section reference
variable (x0 x1 : S4096x2048.Idx → EReal) (x2 : S2048x2048.Idx → EReal) (x3 : S2048.Idx → EReal)

theorem ref_x1 (r : Fin 4096) (c : Fin 2048) :
    Cert.FwdOutReferenceIdeal.Read.val_main_v1 (F := Ideal) x0 x1 x2 (ix2 r c) = x0 (ix2 r c) + ∑ k : Fin 2048, x1 (ix2 r k) * x2 (ix2 k c) := by
  refine (Cert.FwdOutReferenceIdeal.Read.val_main_v1_apply (F := Ideal) x0 x1 x2 _).trans (congrArg (x0 (ix2 r c) + ·) ?_)
  refine (Cert.FwdOutReferenceIdeal.Read.val_main_v0_apply x1 x2 _).trans ?_
  refine Finset.sum_congr rfl fun k _ => congrArg₂ _ (congrArg x1 (funext fun a => Fin.ext ?_)) (congrArg x2 (funext fun a => Fin.ext ?_))
  · match a with
    | ⟨0, _⟩ => rfl
    | ⟨1, _⟩ => rfl
  · match a with
    | ⟨0, _⟩ => rfl
    | ⟨1, _⟩ => rfl

theorem ref_sum (r : Fin 4096) : Cert.FwdOutReferenceIdeal.Read.val_main_v3 (F := Ideal) x0 x1 x2 (ix1 r)
    = ∑ k : Fin 2048, Cert.FwdOutReferenceIdeal.Read.val_main_v1 (F := Ideal) x0 x1 x2 (ix2 r k) * Cert.FwdOutReferenceIdeal.Read.val_main_v1 (F := Ideal) x0 x1 x2 (ix2 r k) := by
  refine (Cert.FwdOutReferenceIdeal.Read.val_main_v3_apply x0 x1 x2 _).trans ?_
  have h0 : ∀ i, Cert.FwdOutReferenceIdeal.Read.val_main_cst (F := Ideal) i = (0 : EReal) := by
    intro i
    show (FloatOps.ofBits (F := Ideal) .f32 0x00000000#32 : EReal) = 0
    pointwise
  rw [h0, zero_add]
  refine Finset.sum_congr rfl fun k _ => ?_
  refine (congrArg _ (funext fun a => Fin.ext ?_ : Cert.FwdOutReferenceIdeal.Read.idx_main_v3 (ix1 r) k = ix2 r k)).trans (Cert.FwdOutReferenceIdeal.Read.val_main_v2_apply (F := Ideal) x0 x1 x2 (ix2 r k))
  match a with
  | ⟨0, _⟩ => rfl
  | ⟨1, _⟩ => rfl

/-- The reference's normalized entry is `normed` of its row. -/
theorem ref_h (r : Fin 4096) (c : Fin 2048) : Cert.FwdOutReferenceIdeal.Read.val_main_v15 (F := Ideal) x0 x1 x2 x3 (ix2 r c)
    = normed (fun k => Cert.FwdOutReferenceIdeal.Read.val_main_v1 (F := Ideal) x0 x1 x2 (ix2 r k)) (x3 (ix1 c)) c := by
  have hd : Cert.FwdOutReferenceIdeal.Read.val_main_v10 (F := Ideal) x0 x1 x2 (ix2 r c)
      = FloatOps.rsqrt (F := Ideal) (φ := .f32) (FloatOps.addf (F := Ideal) (φ := .f32) (FloatOps.divf (F := Ideal) (φ := .f32)
        (Cert.FwdOutReferenceIdeal.Read.val_main_v3 (F := Ideal) x0 x1 x2 (ix1 r)) (FloatOps.ofBits (F := Ideal) .f32 0x45000000#32)) (FloatOps.ofBits (F := Ideal) .f32 0x358637BD#32)) := by
    refine (Cert.FwdOutReferenceIdeal.Read.val_main_v10_apply (F := Ideal) x0 x1 x2 _).trans ?_
    refine (Cert.FwdOutReferenceIdeal.Read.val_main_v9_apply (F := Ideal) x0 x1 x2 _).trans ?_
    rw [Cert.FwdOutReferenceIdeal.Read.val_main_v8_apply, Cert.FwdOutReferenceIdeal.Read.val_main_v6_apply, Cert.FwdOutReferenceIdeal.Read.val_main_v4_apply,
      Cert.FwdOutReferenceIdeal.Read.val_main_v5_apply, Cert.FwdOutReferenceIdeal.Read.val_main_v7_apply]
    have hi : Cert.FwdOutReferenceIdeal.Read.idx_main_v4 (Cert.FwdOutReferenceIdeal.Read.idx_main_v10 (ix2 r c)) = ix1 r := funext fun a => Fin.ext (by match a with | ⟨0, _⟩ => rfl)
    rw [hi]
    rfl
  have hg : Cert.FwdOutReferenceIdeal.Read.val_main_v13 (F := Ideal) x3 (ix2 r c) = x3 (ix1 c) := by
    refine (Cert.FwdOutReferenceIdeal.Read.val_main_v13_apply (F := Ideal) x3 _).trans ((Cert.FwdOutReferenceIdeal.Read.val_main_v12_apply (F := Ideal) x3 _).trans (congrArg x3 (funext fun a => Fin.ext ?_)))
    match a with
    | ⟨0, _⟩ => rfl
  refine (Cert.FwdOutReferenceIdeal.Read.val_main_v15_apply (F := Ideal) x0 x1 x2 x3 _).trans ?_
  rw [Cert.FwdOutReferenceIdeal.Read.val_main_v14_apply, Cert.FwdOutReferenceIdeal.Read.val_main_v11_apply, hd, hg, ref_sum]
  rfl

theorem ref_ht (r : Fin 4096) (c : Fin 2048) : Cert.FwdOutReferenceIdeal.Read.val_main_v16 (F := Ideal) x0 x1 x2 x3 (ix2 c r)
    = Cert.FwdOutReferenceIdeal.Read.val_main_v15 (F := Ideal) x0 x1 x2 x3 (ix2 r c) := by
  refine (Cert.FwdOutReferenceIdeal.Read.val_main_v16_apply (F := Ideal) x0 x1 x2 x3 _).trans (congrArg _ (funext fun a => Fin.ext ?_))
  match a with
  | ⟨0, _⟩ => rfl
  | ⟨1, _⟩ => rfl

end reference

/-- One point's sum of the input and the product, index by index. -/
theorem sum_at (v0 : Vec Ideal S512x2048 .f32) (a : Vec Ideal S512x2048 .bf16) (b : Vec Ideal S2048x2048 .bf16) (r : Fin 512) (c : Fin 2048) :
    k0_pay1 v0 a b (ix2 r c) = v0 (ix2 r c) + ∑ k : Fin 2048, a (ix2 r k) * b (ix2 k c) := by
  unfold k0_pay1
  pointwise

theorem normed_at (v0 : Vec Ideal S512x2048 .f32) (a : Vec Ideal S512x2048 .bf16) (b : Vec Ideal S2048x2048 .bf16) (g : Vec Ideal S1x2048 .f32) (r : Fin 512) (c : Fin 2048) :
    k0_pay2 v0 a b g (ix2 r c) = normed (fun k => k0_pay1 v0 a b (ix2 r k)) (g (ix2 0 c)) c := by
  unfold k0_pay2 normed
  generalize k0_pay1 v0 a b = p
  pointwise

theorem turned_at (v0 : Vec Ideal S512x2048 .f32) (a : Vec Ideal S512x2048 .bf16) (b : Vec Ideal S2048x2048 .bf16) (g : Vec Ideal S1x2048 .f32) (r : Fin 512) (c : Fin 2048) :
    k0_pay3 v0 a b g (ix2 c r) = k0_pay2 v0 a b g (ix2 r c) := by
  unfold k0_pay3
  generalize k0_pay2 v0 a b g = p
  pointwise

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, t.val] :=
  (by decide +kernel : ∀ t : Fin grid0.N, _)

theorem point_lt (t : Fin cfg0.N) : t.val < 8 := lt_of_lt_of_eq t.isLt (show cfg0.N = 8 by decide +kernel)

/-- Row `r` of block `t`. -/
abbrev at_ (t : Fin cfg0.N) (r : Fin 512) : Fin 4096 := ⟨512 * t.val + r.val, by have := point_lt t; omega⟩

theorem V_mix : V m c main_v0 = m ((c : Thread nD τ).loc main_arg1) := by
  simp only [V, hostOps0]
  after_reads_at
  rfl

theorem V_w : V m c main_v1 = m ((c : Thread nD τ).loc main_arg2) := by
  simp only [V, hostOps0]
  after_reads_at
  rfl

theorem V_g (k : Fin 2048) : V m c main_v2 (ix2 0 k) = m ((c : Thread nD τ).loc main_arg3) (ix1 k) := by
  simp only [V, hostOps0]
  after_reads_at

theorem iblk_mix (t : Fin cfg0.N) (r : Fin 512) (k : Fin 2048) : iblk m c 0 t (ix2 r k) = V m c main_v0 (ix2 (at_ t r) k) := by
  unfold iblk
  generalize V m c = v
  blk_ext [idx t]

theorem iblk_w (t : Fin cfg0.N) (k c' : Fin 2048) : iblk m c 1 t (ix2 k c') = V m c main_v1 (ix2 k c') := by
  unfold iblk
  generalize V m c = v
  blk_ext [idx t]

theorem iblk_x (t : Fin cfg0.N) (r : Fin 512) (k : Fin 2048) : iblk m c 2 t (ix2 r k) = V m c main_arg0 (ix2 (at_ t r) k) := by
  unfold iblk
  generalize V m c = v
  blk_ext [idx t]

theorem iblk_g (t : Fin cfg0.N) (k : Fin 2048) : iblk m c 3 t (ix2 0 k) = V m c main_v2 (ix2 0 k) := by
  unfold iblk
  generalize V m c = v
  blk_ext [idx t]

/-- One row of a point's sum is the reference's row. -/
theorem x1_row (t : Fin cfg0.N) (r : Fin 512) (k : Fin 2048) : k0_pay1 (iblk m c 2 t) (iblk m c 0 t) (iblk m c 1 t) (ix2 r k)
    = Cert.FwdOutReferenceIdeal.Read.val_main_v1 (F := Ideal) (m ((c : Thread nD τ).loc main_arg0)) (m ((c : Thread nD τ).loc main_arg1)) (m ((c : Thread nD τ).loc main_arg2)) (ix2 (at_ t r) k) := by
  refine (sum_at _ _ _ r k).trans (Eq.trans ?_ (ref_x1 _ _ _ _ _).symm)
  refine congrArg₂ _ ((iblk_x m c t r k).trans ?_) (Finset.sum_congr rfl fun j _ => congrArg₂ _ ((iblk_mix m c t r j).trans ?_) ((iblk_w m c t j k).trans ?_))
  · rw [V_main_arg0]
  · rw [V_mix]
  · rw [V_w]

theorem h_row (t : Fin cfg0.N) (r : Fin 512) (k : Fin 2048) : k0_pay2 (iblk m c 2 t) (iblk m c 0 t) (iblk m c 1 t) (iblk m c 3 t) (ix2 r k)
    = Cert.FwdOutReferenceIdeal.Read.val_main_v15 (F := Ideal) (m ((c : Thread nD τ).loc main_arg0)) (m ((c : Thread nD τ).loc main_arg1)) (m ((c : Thread nD τ).loc main_arg2)) (m ((c : Thread nD τ).loc main_arg3)) (ix2 (at_ t r) k) := by
  refine (normed_at _ _ _ _ r k).trans (Eq.trans ?_ (ref_h _ _ _ _ _ _).symm)
  rw [iblk_g, V_g]
  exact congrArg (fun f => normed f _ k) (funext fun j => x1_row m c t r j)

theorem out4 (t : Fin cfg0.N) (y : S512x2048.Idx) : out0_4 (iblk m c 0 t) (iblk m c 1 t) (iblk m c 2 t) (iblk m c 3 t) y
    = Cert.FwdOutReferenceIdeal.Read.val_main_v1 (F := Ideal) (m ((c : Thread nD τ).loc main_arg0)) (m ((c : Thread nD τ).loc main_arg1)) (m ((c : Thread nD τ).loc main_arg2)) (ix2 (at_ t (y 0)) (y 1)) := by
  refine Eq.trans ?_ (x1_row m c t (y 0) (y 1))
  unfold out0_4
  rw [View.canon_unit_zero (by funext a; revert a; decide), View.ld_unit_zero (by funext a; revert a; decide), View.ld_unit_zero (by funext a; revert a; decide), View.ld_unit_zero (by funext a; revert a; decide)]
  exact congrArg _ (eq_ix2 (n0 := 512) (n1 := 2048) y)

theorem out5 (t : Fin cfg0.N) (y : S512x2048.Idx) : out0_5 (iblk m c 0 t) (iblk m c 1 t) (iblk m c 2 t) (iblk m c 3 t) y
    = Cert.FwdOutReferenceIdeal.Read.val_main_v15 (F := Ideal) (m ((c : Thread nD τ).loc main_arg0)) (m ((c : Thread nD τ).loc main_arg1)) (m ((c : Thread nD τ).loc main_arg2)) (m ((c : Thread nD τ).loc main_arg3)) (ix2 (at_ t (y 0)) (y 1)) := by
  refine Eq.trans ?_ (h_row m c t (y 0) (y 1))
  unfold out0_5
  rw [View.canon_unit_zero (by funext a; revert a; decide), View.ld_unit_zero (by funext a; revert a; decide), View.ld_unit_zero (by funext a; revert a; decide), View.ld_unit_zero (by funext a; revert a; decide), View.ld_unit_zero (by funext a; revert a; decide)]
  exact congrArg _ (eq_ix2 (n0 := 512) (n1 := 2048) y)

theorem out6 (t : Fin cfg0.N) (y : S2048x512.Idx) : out0_6 (iblk m c 0 t) (iblk m c 1 t) (iblk m c 2 t) (iblk m c 3 t) y
    = Cert.FwdOutReferenceIdeal.Read.val_main_v16 (F := Ideal) (m ((c : Thread nD τ).loc main_arg0)) (m ((c : Thread nD τ).loc main_arg1)) (m ((c : Thread nD τ).loc main_arg2)) (m ((c : Thread nD τ).loc main_arg3)) (ix2 (y 0) (at_ t (y 1))) := by
  refine Eq.trans ?_ ((h_row m c t (y 1) (y 0)).trans (ref_ht _ _ _ _ _ _).symm)
  unfold out0_6
  rw [View.canon_unit_zero (by funext a; revert a; decide), View.ld_unit_zero (by funext a; revert a; decide), View.ld_unit_zero (by funext a; revert a; decide), View.ld_unit_zero (by funext a; revert a; decide), View.ld_unit_zero (by funext a; revert a; decide)]
  exact (congrArg _ (eq_ix2 (n0 := 2048) (n1 := 512) y)).trans (turned_at _ _ _ _ _ _)

theorem final_x1 : (dats m 0 c).arrAt 4 cfg0.N
    = Cert.FwdOutReferenceIdeal.Read.val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (out4 m c t y).trans ?_
  generalize Cert.FwdOutReferenceIdeal.Read.val_main_v1 (F := Ideal) _ _ _ = g
  blk_ext [idx t]

theorem final_h : (dats m 0 c).arrAt 5 cfg0.N
    = Cert.FwdOutReferenceIdeal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  refine (out5 m c t y).trans ?_
  generalize Cert.FwdOutReferenceIdeal.Read.val_main_v15 (F := Ideal) _ _ _ _ = g
  blk_ext [idx t]

theorem final_ht : (dats m 0 c).arrAt 6 cfg0.N
    = Cert.FwdOutReferenceIdeal.Read.val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  refine (out6 m c t y).trans ?_
  generalize Cert.FwdOutReferenceIdeal.Read.val_main_v16 (F := Ideal) _ _ _ _ = g
  blk_ext [idx t]

end Cert.FwdOutIdeal.Tie
end
-- ==== Proof.GateBwdValue.lean ====
/- What the call leaves in the block every point adds to: the reference's gradient of the norm's gain in the first row, zero elsewhere. -/
module

public import proofs.«01_k».proof.Proof.Gen.GateBwdIdeal.Value
public import proofs.«01_k».proof.Proof.Gen.GateBwdReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt
public import Idealize.ShloMosaic.Lib.Pipeline.ValueKit.Acc

@[expose] public section

set_option synthInstance.maxSize 4096
set_option maxRecDepth 16384

noncomputable section

namespace Cert.GateBwdIdeal.Tie

open Cert.GateBwdIdeal Cert.GateBwdIdeal.Gen Idealize.ShloMosaic Idealize.ShloMosaic.TcCoe Idealize.SL.Sem

/-- One row's entry over the root of the row's mean square. -/
def normed (f : Fin 2048 → EReal) (c : Fin 2048) : EReal :=
  FloatOps.mulf (F := Ideal) (φ := .f32) (f c) (FloatOps.rsqrt (F := Ideal) (φ := .f32) (FloatOps.addf (F := Ideal) (φ := .f32)
    (FloatOps.divf (F := Ideal) (φ := .f32) (∑ k : Fin 2048, f k * f k) (FloatOps.ofBits (F := Ideal) .f32 0x45000000#32)) (FloatOps.ofBits (F := Ideal) .f32 0x358637BD#32)))

/-- A row's share of the gain's gradient at one column: the product's cotangent times the normalized entry. -/
def share (d : Fin 2048 → EReal) (w : Fin 2048 → EReal) (f : Fin 2048 → EReal) (c : Fin 2048) : EReal :=
  (∑ k : Fin 2048, d k * w k) * normed f c

section reference
variable (x0 x3 : S4096x2048.Idx → EReal) (x2 : S2048x2048.Idx → EReal)

theorem ref_sum (r : Fin 4096) : Cert.GateBwdReferenceIdeal.Read.val_main_v1 (F := Ideal) x0 (ix1 r) = ∑ k : Fin 2048, x0 (ix2 r k) * x0 (ix2 r k) := by
  refine (Cert.GateBwdReferenceIdeal.Read.val_main_v1_apply x0 _).trans ?_
  have h0 : ∀ i, Cert.GateBwdReferenceIdeal.Read.val_main_cst (F := Ideal) i = (0 : EReal) := by
    intro i
    show (FloatOps.ofBits (F := Ideal) .f32 0x00000000#32 : EReal) = 0
    pointwise
  rw [h0, zero_add]
  refine Finset.sum_congr rfl fun k _ => ?_
  refine (congrArg _ (funext fun a => Fin.ext ?_ : Cert.GateBwdReferenceIdeal.Read.idx_main_v1 (ix1 r) k = ix2 r k)).trans (Cert.GateBwdReferenceIdeal.Read.val_main_v0_apply (F := Ideal) x0 (ix2 r k))
  match a with
  | ⟨0, _⟩ => rfl
  | ⟨1, _⟩ => rfl

theorem ref_xn (r : Fin 4096) (c : Fin 2048) : Cert.GateBwdReferenceIdeal.Read.val_main_v9 (F := Ideal) x0 (ix2 r c) = normed (fun k => x0 (ix2 r k)) c := by
  have hd : Cert.GateBwdReferenceIdeal.Read.val_main_v8 (F := Ideal) x0 (ix2 r c)
      = FloatOps.rsqrt (F := Ideal) (φ := .f32) (FloatOps.addf (F := Ideal) (φ := .f32) (FloatOps.divf (F := Ideal) (φ := .f32)
        (Cert.GateBwdReferenceIdeal.Read.val_main_v1 (F := Ideal) x0 (ix1 r)) (FloatOps.ofBits (F := Ideal) .f32 0x45000000#32)) (FloatOps.ofBits (F := Ideal) .f32 0x358637BD#32)) := by
    refine (Cert.GateBwdReferenceIdeal.Read.val_main_v8_apply (F := Ideal) x0 _).trans ?_
    refine (Cert.GateBwdReferenceIdeal.Read.val_main_v7_apply (F := Ideal) x0 _).trans ?_
    rw [Cert.GateBwdReferenceIdeal.Read.val_main_v6_apply, Cert.GateBwdReferenceIdeal.Read.val_main_v4_apply, Cert.GateBwdReferenceIdeal.Read.val_main_v2_apply, Cert.GateBwdReferenceIdeal.Read.val_main_v3_apply, Cert.GateBwdReferenceIdeal.Read.val_main_v5_apply]
    have hi : Cert.GateBwdReferenceIdeal.Read.idx_main_v2 (Cert.GateBwdReferenceIdeal.Read.idx_main_v8 (ix2 r c)) = ix1 r := funext fun a => Fin.ext (by match a with | ⟨0, _⟩ => rfl)
    rw [hi]
    rfl
  refine (Cert.GateBwdReferenceIdeal.Read.val_main_v9_apply (F := Ideal) x0 _).trans ?_
  rw [hd, ref_sum]
  rfl

theorem ref_dh (r : Fin 4096) (c : Fin 2048) : Cert.GateBwdReferenceIdeal.Read.val_main_v14 (F := Ideal) x2 x3 (ix2 r c) = ∑ k : Fin 2048, x3 (ix2 r k) * x2 (ix2 c k) := by
  refine (Cert.GateBwdReferenceIdeal.Read.val_main_v14_apply x2 x3 _).trans (Finset.sum_congr rfl fun k _ => congrArg₂ _ (congrArg x3 (funext fun a => Fin.ext ?_)) (congrArg x2 (funext fun a => Fin.ext ?_)))
  · match a with
    | ⟨0, _⟩ => rfl
    | ⟨1, _⟩ => rfl
  · match a with
    | ⟨0, _⟩ => rfl
    | ⟨1, _⟩ => rfl

/-- The reference's gradient of the gain is the sum of all rows' shares. -/
theorem ref_row (i : S1x2048.Idx) : Cert.GateBwdReferenceIdeal.Read.val_main_v19 (F := Ideal) x0 x2 x3 i
    = ∑ r : Fin 4096, share (fun k => x3 (ix2 r k)) (fun k => x2 (ix2 (i 1) k)) (fun k => x0 (ix2 r k)) (i 1) := by
  have h2 : ∀ i, Cert.GateBwdReferenceIdeal.Read.val_main_cst_2 (F := Ideal) i = (0 : EReal) := by
    intro i
    show (FloatOps.ofBits (F := Ideal) .f32 0x00000000#32 : EReal) = 0
    pointwise
  have h3 : ∀ i, Cert.GateBwdReferenceIdeal.Read.val_main_cst_3 (F := Ideal) i = (0 : EReal) := by
    intro i
    show (FloatOps.ofBits (F := Ideal) .f32 0x00000000#32 : EReal) = 0
    pointwise
  refine (Cert.GateBwdReferenceIdeal.Read.val_main_v19_apply (F := Ideal) x0 x2 x3 _).trans ((Cert.GateBwdReferenceIdeal.Read.val_main_v18_apply x0 x2 x3 _).trans ?_)
  rw [h3, zero_add, Fin.sum_univ_one]
  refine (Cert.GateBwdReferenceIdeal.Read.val_main_v17_apply (F := Ideal) x0 x2 x3 _).trans ((Cert.GateBwdReferenceIdeal.Read.val_main_v16_apply x0 x2 x3 _).trans ?_)
  rw [h2, zero_add]
  refine Finset.sum_congr rfl fun r _ => ?_
  have hi : ∀ j : S2048.Idx, (j 0).val = (i 1).val → Cert.GateBwdReferenceIdeal.Read.idx_main_v16 j r = ix2 r (i 1) := fun j hj => funext fun a => Fin.ext (by
    match a with
    | ⟨0, _⟩ => rfl
    | ⟨1, _⟩ => exact hj)
  rw [hi _ (by show 0 * 2048 + (i 1).val = (i 1).val; omega)]
  refine (Cert.GateBwdReferenceIdeal.Read.val_main_v15_apply (F := Ideal) x0 x2 x3 _).trans ?_
  exact (congrArg₂ (· * ·) (ref_xn x0 r (i 1)) (ref_dh x3 x2 r (i 1))).trans (mul_comm _ _)

/-- The reference's result: the gradient in the first row, zero in the others. -/
theorem ref_at (y : S8x2048.Idx) : Cert.GateBwdReferenceIdeal.Read.val_main_v21 (F := Ideal) x0 x2 x3 y
    = if (y 0).val = 0 then ∑ r : Fin 4096, share (fun k => x3 (ix2 r k)) (fun k => x2 (ix2 (y 1) k)) (fun k => x0 (ix2 r k)) (y 1) else 0 := by
  have h4 : ∀ i, Cert.GateBwdReferenceIdeal.Read.val_main_v20 (F := Ideal) i = (0 : EReal) := by
    intro i
    refine (Cert.GateBwdReferenceIdeal.Read.val_main_v20_apply (F := Ideal) i).trans ?_
    show (FloatOps.ofBits (F := Ideal) .f32 0x00000000#32 : EReal) = 0
    pointwise
  have h1 := ref_row x0 x3 x2
  unfold Cert.GateBwdReferenceIdeal.Read.val_main_v21
  generalize Cert.GateBwdReferenceIdeal.Read.val_main_v19 (F := Ideal) x0 x2 x3 = a at h1 ⊢
  generalize Cert.GateBwdReferenceIdeal.Read.val_main_v20 (F := Ideal) = b at h4 ⊢
  obtain ⟨r, k, rfl⟩ : ∃ (r : Fin 8) (k : Fin 2048), y = ix2 r k := ⟨y 0, y 1, eq_ix2 (n0 := 8) (n1 := 2048) y⟩
  show _ = if r.val = 0 then ∑ r : Fin 4096, share (fun k => x3 (ix2 r k)) (fun k' => x2 (ix2 k k')) (fun k => x0 (ix2 r k)) k else 0
  pointwise
  by_cases h : r.val = 0
  · rw [dif_pos (by omega), if_pos h]
    exact h1 _
  · rw [dif_neg (by omega), if_neg h]
    exact h4 _

end reference

theorem dh_at (a : Vec Ideal S512x2048 .bf16) (b : Vec Ideal S2048x2048 .bf16) (r : Fin 512) (c : Fin 2048) :
    k0_pay3 a b (ix2 r c) = ∑ k : Fin 2048, a (ix2 r k) * b (ix2 c k) := by
  unfold k0_pay3
  pointwise

theorem xn_at (x : Vec Ideal S512x2048 .f32) (r : Fin 512) (c : Fin 2048) :
    k0_pay5 x (ix2 r c) = normed (fun k => x (ix2 r k)) c := by
  unfold k0_pay5 k0_pay4 normed
  pointwise

theorem acc_at (p q : FVec Ideal S512x2048 .f32) (o : Vec Ideal S1x2048 .f32) (i : Fin 1) (c : Fin 2048) :
    k0_pay2 p q o (ix2 i c) = o (ix2 i c) + ∑ r : Fin 512, p (ix2 r c) * q (ix2 r c) := by
  unfold k0_pay2
  pointwise

theorem zero_at (y : S8x2048.Idx) : k0_pay1 (F := Ideal) y = 0 := by
  unfold k0_pay1
  pointwise

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_7.index t = ![0, 0] :=
  (by decide +kernel : ∀ t : Fin grid0.N, _)

theorem point_lt (t : Fin cfg0.N) : t.val < 8 := lt_of_lt_of_eq t.isLt (show cfg0.N = 8 by decide +kernel)

/-- Row `r` of block `t`. -/
abbrev at_ (t : Fin cfg0.N) (r : Fin 512) : Fin 4096 := ⟨t.val * 512 + r.val, by have := point_lt t; omega⟩

theorem V_d : V m c main_v0 = (m ((c : Thread nD τ).loc main_arg3)) := by
  simp only [V, hostOps0]
  after_reads_at
  rfl

theorem V_w : V m c main_v1 = (m ((c : Thread nD τ).loc main_arg2)) := by
  simp only [V, hostOps0]
  after_reads_at
  rfl

theorem iblk_d (t : Fin cfg0.N) (r : Fin 512) (k : Fin 2048) : iblk m c 0 t (ix2 r k) = V m c main_v0 (ix2 (at_ t r) k) := by
  unfold iblk
  generalize V m c = v
  blk_ext [idx t]

theorem iblk_w (t : Fin cfg0.N) (k c' : Fin 2048) : iblk m c 1 t (ix2 k c') = V m c main_v1 (ix2 k c') := by
  unfold iblk
  generalize V m c = v
  blk_ext [idx t]

theorem iblk_x (t : Fin cfg0.N) (r : Fin 512) (k : Fin 2048) : iblk m c 2 t (ix2 r k) = V m c main_arg0 (ix2 (at_ t r) k) := by
  unfold iblk
  generalize V m c = v
  blk_ext [idx t]

/-- What point `t` adds to the block: its rows' shares in the first row. -/
def term (t : Fin cfg0.N) (y : S8x2048.Idx) : EReal :=
  if (y 0).val = 0 then ∑ r : Fin 512, k0_pay3 (iblk m c 0 t) (iblk m c 1 t) (ix2 r (y 1)) * k0_pay5 (iblk m c 2 t) (ix2 r (y 1)) else 0

theorem row_eq (t : Fin cfg0.N) (k : Fin 2048) (r : Fin 512) :
    k0_pay3 (iblk m c 0 t) (iblk m c 1 t) (ix2 r k) * k0_pay5 (iblk m c 2 t) (ix2 r k)
      = share (fun j => ((m ((c : Thread nD τ).loc main_arg3)) : S4096x2048.Idx → EReal) (ix2 (at_ t r) j)) (fun j => ((m ((c : Thread nD τ).loc main_arg2)) : S2048x2048.Idx → EReal) (ix2 k j)) (fun j => ((m ((c : Thread nD τ).loc main_arg0)) : S4096x2048.Idx → EReal) (ix2 (at_ t r) j)) k := by
  rw [dh_at, xn_at]
  unfold share
  refine congrArg₂ _ (Finset.sum_congr rfl fun j _ => congrArg₂ _ ((iblk_d m c t r j).trans ?_) ((iblk_w m c t k j).trans ?_)) (congrArg (fun f => normed f k) (funext fun j => (iblk_x m c t r j).trans ?_))
  · rw [V_d]
  · rw [V_w]
  · rw [V_main_arg0]

theorem stepA (t : Fin cfg0.N) (h : t.val % 8 = 0) (y : S8x2048.Idx) : (outsAt0 m c t.val t.isLt).2.2 y = 0 + term m c t y := by
  rw [outsAt0_A m c t h]
  frame_out
  rw [View.readCov_eq_canon', View.canon_unit_zero (by funext a; revert a; decide)]
  unfold term
  by_cases hy : (y 0).val = 0
  · rw [if_pos hy]
    have he : (Rect.unit ![0, 0] ![1, 2048] inb_S8x2048_S1x2048_0_0 : Rect S8x2048).emb (ix2 (n0 := 1) (n1 := 2048) 0 (y 1)) = y :=
      Rect.emb_eq_of_coords _ _ y fun a => by
        match a with
        | ⟨0, _⟩ => exact hy
        | ⟨1, _⟩ => show (y 1).val = 0 + 1 * (y 1).val; omega
    refine (congrArg _ he.symm).trans ((View.canon_cons_emb _ _ _ _).trans ?_)
    exact (acc_at _ _ _ 0 (y 1)).trans (congrArg (· + _) (zero_at _))
  · rw [if_neg hy, add_zero]
    refine (View.canon_cons_of_not_mem _ _ (Rect.not_mem_set_of_axis _ y 0 0 1 rfl rfl rfl (Or.inr (by omega)))).trans ?_
    rw [View.canon_unit_zero (by funext a; revert a; decide)]
    exact zero_at y

theorem stepB (t : Fin cfg0.N) (h : ¬ t.val % 8 = 0) (y : S8x2048.Idx) :
    (outsAt0 m c t.val t.isLt).2.2 y = (outsAt0 m c (t.val - 1) (Nat.lt_of_le_of_lt (Nat.sub_le _ _) t.isLt)).2.2 y + term m c t y := by
  rw [outsAt0_B m c t h]
  frame_out
  generalize (outsAt0 m c (t.val - 1) (Nat.lt_of_le_of_lt (Nat.sub_le _ _) t.isLt)).2.2 = o
  unfold term
  by_cases hy : (y 0).val = 0
  · rw [if_pos hy]
    refine (View.read_writes_cons_hit_of_coords _ _ _ _ _ (ix2 (n0 := 1) (n1 := 2048) 0 (y 1)) y (fun a => ?_)).trans ?_
    · match a with
      | ⟨0, _⟩ => exact hy
      | ⟨1, _⟩ => show (y 1).val = 0 + 1 * (y 1).val; omega
    · refine (acc_at _ _ _ 0 (y 1)).trans (congrArg (· + _) ?_)
      refine congrArg o (funext fun a => Fin.ext ?_)
      match a with
      | ⟨0, _⟩ => exact hy.symm
      | ⟨1, _⟩ => show 0 + 1 * (y 1).val = (y 1).val; omega
  · rw [if_neg hy, add_zero]
    refine (View.read_writes_cons_miss_of_axis _ _ _ _ y 0 0 1 rfl rfl rfl (Or.inr (by omega))).trans ?_
    rw [View.writes_nil, (hs0_7 t).read_unread]

/-- The block after the last point. -/
theorem last (t : Fin cfg0.N) (ht : t.val + 1 = cfg0.N) (y : S8x2048.Idx) : (outsAt0 m c t.val t.isLt).2.2 y
    = Cert.GateBwdReferenceIdeal.Read.val_main_v21 (F := Ideal) (m ((c : Thread nD τ).loc main_arg0)) (m ((c : Thread nD τ).loc main_arg2)) (m ((c : Thread nD τ).loc main_arg3)) y := by
  refine (Pipeline.eq_sum_fin_of_reset_step_apply_last (fun n h => (outsAt0 m c n h).2.2) 8 (fun _ => (0 : EReal)) (term m c)
    (fun t h y => stepA m c t h y) (fun t h y => stepB m c t h y) (le_of_eq N_0) t ht y).trans ?_
  rw [zero_add]
  refine Eq.trans ?_ (ref_at _ _ _ y).symm
  unfold term
  by_cases hy : (y 0).val = 0
  · rw [if_pos hy]
    simp only [if_pos hy]
    refine Fin.sum_mul_add_congr (S := 8) (n := 512) (L := 4096) (F := fun s k => k0_pay3 (iblk m c 0 s) (iblk m c 1 s) (ix2 k (y 1)) * k0_pay5 (iblk m c 2 s) (ix2 k (y 1))) fun s k hl => ?_
    exact row_eq m c s (y 1) k
  · rw [if_neg hy]
    simp only [if_neg hy]
    exact Finset.sum_const_zero

theorem final : (dats m 0 c).arrAt 7 cfg0.N = Cert.GateBwdReferenceIdeal.Read.val_main_v21 (F := Ideal) (m ((c : Thread nD τ).loc main_arg0)) (m ((c : Thread nD τ).loc main_arg2)) (m ((c : Thread nD τ).loc main_arg3)) := by
  refine (dats m 0 c).arrAt_eq_of_covers 7 _ (by decide +kernel) fun t hf y => ?_
  blk_simp
  refine (last m c t ?_ y).trans ?_
  · have h8 : cfg0.N = 8 := N_0
    have := (flush0_7 t).mp hf
    have := point_lt t
    omega
  generalize Cert.GateBwdReferenceIdeal.Read.val_main_v21 (F := Ideal) _ _ _ = g
  blk_ext [idx t]

end Cert.GateBwdIdeal.Tie
end
-- ==== Proof.PleValue.lean ====
/- The gradients of the loss with respect to the layer's input and to the gate's product, entry by entry, are the reference's. -/
module

public import proofs.«01_k».proof.Proof.Gen.PleIdeal.Value
public import proofs.«01_k».proof.Proof.Gen.PleReferenceIdeal.Read
public import Idealize.ShloMosaic.Lib.Pointwise
public import Idealize.ShloMosaic.Lib.Pipeline.ReadBack
public import Idealize.ShloMosaic.Lib.Pipeline.ValueKit
public import Idealize.ShloMosaic.Lib.Pipeline.ValueKit.Point
public import Idealize.ShloMosaic.Lib.StableHlo.ReadAt
public import Idealize.ShloMosaic.Lib.Pipeline.ValueKit.Acc

@[expose] public section

set_option synthInstance.maxSize 4096
set_option maxRecDepth 16384

noncomputable section

namespace Cert.PleIdeal.Tie

open Cert.PleIdeal Cert.PleIdeal.Gen Idealize.ShloMosaic Idealize.ShloMosaic.TcCoe Idealize.SL.Sem

/-- One row's entry over the root of the row's mean square. -/
def unit (f : Fin 2048 → EReal) (c : Fin 2048) : EReal :=
  FloatOps.mulf (F := Ideal) (φ := .f32) (f c) (FloatOps.rsqrt (F := Ideal) (φ := .f32) (FloatOps.addf (F := Ideal) (φ := .f32)
    (FloatOps.divf (F := Ideal) (φ := .f32) (∑ k : Fin 2048, f k * f k) (FloatOps.ofBits (F := Ideal) .f32 0x45000000#32)) (FloatOps.ofBits (F := Ideal) .f32 0x358637BD#32)))

/-- One row's normalized entry: the entry over the root of the row's mean square, times the gain. -/
def normed (f : Fin 2048 → EReal) (g : EReal) (c : Fin 2048) : EReal := FloatOps.mulf (F := Ideal) (φ := .f32) (unit f c) g

/-- The gate at one entry: the logistic of a row's product with a column and the bias. -/
def gateOf (d w : Fin 2048 → EReal) (b : EReal) : EReal := Ideal.logistic ((∑ k : Fin 2048, d k * w k) + b)

/-- The embedding at one entry: a row's product with the projection, normalized. -/
def emb (p : Fin 256 → EReal) (w : Fin 256 → Fin 2048 → EReal) (g : EReal) (c : Fin 2048) : EReal :=
  normed (fun k => ∑ j : Fin 256, p j * w j k) g c

/-- A projected row's entry over the root of the row's mean square. -/
def embUnit (p : Fin 256 → EReal) (w : Fin 256 → Fin 2048 → EReal) (c : Fin 2048) : EReal :=
  unit (fun k => ∑ j : Fin 256, p j * w j k) c

/-- The loss's gradient with respect to the layer's input at one entry. -/
def dyOf (gate e x t : EReal) : EReal := ((x + gate * e) - t) * Ideal.ofBits .f32 0x3A000000#32

/-- The error at one entry. -/
def errOf (gate e x t : EReal) : EReal := (x + gate * e) - t

/-- The loss's gradient with respect to the gate's product at one entry. -/
def dgOf (gate e x t : EReal) : EReal := (dyOf gate e x t * e) * (gate * (1 - gate))

theorem bits_mean : Ideal.ofBits .f32 0x3A000000#32 = (((1 : ℝ) / 2048 : ℝ) : EReal) := by
  simp [Ideal.ofBits, Ideal.ieee, -EReal.coe_mul]; norm_num
theorem bits_width : Ideal.ofBits .f32 0x45000000#32 = ((2048 : ℝ) : EReal) := by
  simp [Ideal.ofBits, Ideal.ieee, -EReal.coe_mul]; norm_num
theorem bits_half : Ideal.ofBits .f32 0x3F000000#32 = (((1 : ℝ) / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

theorem bits_share : Ideal.ofBits .f32 0x39800000#32 = (((1 : ℝ) / 4096 : ℝ) : EReal) := by
  simp [Ideal.ofBits, Ideal.ieee, -EReal.coe_mul]; norm_num

theorem sq_nonneg (a : EReal) : 0 ≤ a * a := by
  induction a with
  | bot => simp
  | top => simp
  | coe r => rw [← EReal.coe_mul]; exact EReal.coe_nonneg.mpr (mul_self_nonneg r)

/-- A factor comes out of a sum of values that are not negative. -/
theorem sum_scale {n : ℕ} (f : Fin n → EReal) (h : ∀ i, 0 ≤ f i) (a : EReal) : ∑ i, f i * a = (∑ i, f i) * a := by
  induction n with
  | zero => simp
  | succ n ih =>
    rw [Fin.sum_univ_succ, Fin.sum_univ_succ, ih _ (fun i => h i.succ), EReal.right_distrib_of_nonneg (h 0) (Finset.sum_nonneg fun i _ => h i.succ)]

/-- Half of a value's 2048th part. -/
theorem half_share (s : EReal) : Ideal.ofBits .f32 0x3F000000#32 * Ideal.div s (Ideal.ofBits .f32 0x45000000#32) = s * Ideal.ofBits .f32 0x39800000#32 := by
  rw [bits_share, bits_width, bits_half, Ideal.div_coe (by norm_num : (2048 : ℝ) ≠ 0), mul_comm, mul_assoc, ← EReal.coe_mul]
  norm_num

/-- Half of a mean's share, times twice a value, is the value's share of the mean. -/
theorem scale (d : EReal) : Ideal.div (Ideal.ofBits .f32 0x3F000000#32 * 1) (Ideal.ofBits .f32 0x45000000#32) * (Ideal.ofBits .f32 0x40000000#32 * d)
    = d * Ideal.ofBits .f32 0x3A000000#32 := by
  rw [bits_mean, bits_width, bits_half, bits_two, Ideal.div_coe (by norm_num : (2048 : ℝ) ≠ 0), mul_one, ← mul_assoc, ← EReal.coe_mul, ← EReal.coe_mul, mul_comm]
  norm_num

section reference
variable (x0 x6 x7 : S4096x2048.Idx → EReal) (x1 : S2048x2048.Idx → EReal) (x2 x5 : S2048.Idx → EReal) (x3 : S4096x256.Idx → EReal) (x4 : S256x2048.Idx → EReal)

theorem ref_gate (r : Fin 4096) (c : Fin 2048) : Cert.PleReferenceIdeal.Read.val_main_v9 (F := Ideal) x0 x1 x2 (ix2 r c)
    = gateOf (fun k => x0 (ix2 r k)) (fun k => x1 (ix2 k c)) (x2 (ix1 c)) := by
  unfold Cert.PleReferenceIdeal.Read.val_main_v9 Cert.PleReferenceIdeal.Read.val_main_v8 Cert.PleReferenceIdeal.Read.val_main_v7 Cert.PleReferenceIdeal.Read.val_main_v6 Cert.PleReferenceIdeal.Read.val_main_v5 Cert.PleReferenceIdeal.Read.val_main_v4 Cert.PleReferenceIdeal.Read.val_main_v3 Cert.PleReferenceIdeal.Read.val_main_v2 Cert.PleReferenceIdeal.Read.val_main_v1 Cert.PleReferenceIdeal.Read.val_main_v0 Cert.PleReferenceIdeal.Read.val_main_cst Cert.PleReferenceIdeal.Read.val_main_cst_0 gateOf Ideal.logistic
  pointwise

theorem ref_t (r : Fin 4096) (c : Fin 2048) : Cert.PleReferenceIdeal.Read.val_main_v13 (F := Ideal) x3 x4 (ix2 r c) = ∑ j : Fin 256, x3 (ix2 r j) * x4 (ix2 j c) := by
  unfold Cert.PleReferenceIdeal.Read.val_main_v13
  pointwise

theorem ref_e (r : Fin 4096) (c : Fin 2048) : Cert.PleReferenceIdeal.Read.val_main_v26 (F := Ideal) x3 x4 x5 (ix2 r c)
    = emb (fun j => x3 (ix2 r j)) (fun j k => x4 (ix2 j k)) (x5 (ix1 c)) c := by
  have ht := fun k => ref_t x3 x4 r k
  unfold Cert.PleReferenceIdeal.Read.val_main_v26 Cert.PleReferenceIdeal.Read.val_main_v25 Cert.PleReferenceIdeal.Read.val_main_v24 Cert.PleReferenceIdeal.Read.val_main_v23 Cert.PleReferenceIdeal.Read.val_main_v22 Cert.PleReferenceIdeal.Read.val_main_v21 Cert.PleReferenceIdeal.Read.val_main_v20 Cert.PleReferenceIdeal.Read.val_main_v19 Cert.PleReferenceIdeal.Read.val_main_v18 Cert.PleReferenceIdeal.Read.val_main_v17 Cert.PleReferenceIdeal.Read.val_main_v16 Cert.PleReferenceIdeal.Read.val_main_v15 Cert.PleReferenceIdeal.Read.val_main_v14 Cert.PleReferenceIdeal.Read.val_main_cst_2 Cert.PleReferenceIdeal.Read.val_main_cst_3 Cert.PleReferenceIdeal.Read.val_main_cst_4
  generalize Cert.PleReferenceIdeal.Read.val_main_v13 (F := Ideal) x3 x4 = y at ht ⊢
  unfold emb
  rw [← funext ht]
  unfold normed unit
  pointwise

theorem ref_dy (r : Fin 4096) (c : Fin 2048) : Cert.PleReferenceIdeal.Read.val_main_v43 (F := Ideal) x0 x1 x2 x3 x4 x5 x6 x7 (ix2 r c)
    = dyOf (Cert.PleReferenceIdeal.Read.val_main_v9 (F := Ideal) x0 x1 x2 (ix2 r c)) (Cert.PleReferenceIdeal.Read.val_main_v26 (F := Ideal) x3 x4 x5 (ix2 r c)) (x6 (ix2 r c)) (x7 (ix2 r c)) := by
  unfold Cert.PleReferenceIdeal.Read.val_main_v43 Cert.PleReferenceIdeal.Read.val_main_v42 Cert.PleReferenceIdeal.Read.val_main_v41 Cert.PleReferenceIdeal.Read.val_main_v40 Cert.PleReferenceIdeal.Read.val_main_v39 Cert.PleReferenceIdeal.Read.val_main_v38 Cert.PleReferenceIdeal.Read.val_main_v32 Cert.PleReferenceIdeal.Read.val_main_v31 Cert.PleReferenceIdeal.Read.val_main_v29 Cert.PleReferenceIdeal.Read.val_main_v28 Cert.PleReferenceIdeal.Read.val_main_v27 Cert.PleReferenceIdeal.Read.val_main_cst_12 Cert.PleReferenceIdeal.Read.val_main_cst_11 Cert.PleReferenceIdeal.Read.val_main_cst_10 Cert.PleReferenceIdeal.Read.val_main_cst_5
  generalize Cert.PleReferenceIdeal.Read.val_main_v9 (F := Ideal) x0 x1 x2 = a
  generalize Cert.PleReferenceIdeal.Read.val_main_v26 (F := Ideal) x3 x4 x5 = b
  unfold dyOf
  rw [← scale]
  pointwise

theorem ref_dg (r : Fin 4096) (c : Fin 2048) : Cert.PleReferenceIdeal.Read.val_main_v60 (F := Ideal) x0 x1 x2 x3 x4 x5 x6 x7 (ix2 r c)
    = dgOf (Cert.PleReferenceIdeal.Read.val_main_v9 (F := Ideal) x0 x1 x2 (ix2 r c)) (Cert.PleReferenceIdeal.Read.val_main_v26 (F := Ideal) x3 x4 x5 (ix2 r c)) (x6 (ix2 r c)) (x7 (ix2 r c)) := by
  unfold dgOf
  rw [← ref_dy]
  unfold Cert.PleReferenceIdeal.Read.val_main_v60 Cert.PleReferenceIdeal.Read.val_main_v50 Cert.PleReferenceIdeal.Read.val_main_v45 Cert.PleReferenceIdeal.Read.val_main_v12 Cert.PleReferenceIdeal.Read.val_main_v11 Cert.PleReferenceIdeal.Read.val_main_v10 Cert.PleReferenceIdeal.Read.val_main_cst_1
  generalize Cert.PleReferenceIdeal.Read.val_main_v9 (F := Ideal) x0 x1 x2 = a
  generalize Cert.PleReferenceIdeal.Read.val_main_v26 (F := Ideal) x3 x4 x5 = b
  generalize Cert.PleReferenceIdeal.Read.val_main_v43 (F := Ideal) x0 x1 x2 x3 x4 x5 x6 x7 = d
  pointwise

theorem ref_unit (r : Fin 4096) (c : Fin 2048) : Cert.PleReferenceIdeal.Read.val_main_v23 (F := Ideal) x3 x4 (ix2 r c)
    = embUnit (fun j => x3 (ix2 r j)) (fun j k => x4 (ix2 j k)) c := by
  have ht := fun k => ref_t x3 x4 r k
  unfold Cert.PleReferenceIdeal.Read.val_main_v23 Cert.PleReferenceIdeal.Read.val_main_v22 Cert.PleReferenceIdeal.Read.val_main_v21 Cert.PleReferenceIdeal.Read.val_main_v20 Cert.PleReferenceIdeal.Read.val_main_v19 Cert.PleReferenceIdeal.Read.val_main_v18 Cert.PleReferenceIdeal.Read.val_main_v17 Cert.PleReferenceIdeal.Read.val_main_v16 Cert.PleReferenceIdeal.Read.val_main_v15 Cert.PleReferenceIdeal.Read.val_main_v14 Cert.PleReferenceIdeal.Read.val_main_cst_2 Cert.PleReferenceIdeal.Read.val_main_cst_3 Cert.PleReferenceIdeal.Read.val_main_cst_4
  generalize Cert.PleReferenceIdeal.Read.val_main_v13 (F := Ideal) x3 x4 = y at ht ⊢
  unfold embUnit
  rw [← funext ht]
  unfold unit
  pointwise

theorem ref_gain (r : Fin 4096) (c : Fin 2048) : Cert.PleReferenceIdeal.Read.val_main_v46 (F := Ideal) x0 x1 x2 x3 x4 x5 x6 x7 (ix2 r c)
    = (Cert.PleReferenceIdeal.Read.val_main_v43 (F := Ideal) x0 x1 x2 x3 x4 x5 x6 x7 (ix2 r c) * Cert.PleReferenceIdeal.Read.val_main_v9 (F := Ideal) x0 x1 x2 (ix2 r c)) * Cert.PleReferenceIdeal.Read.val_main_v23 (F := Ideal) x3 x4 (ix2 r c) := by
  refine (Cert.PleReferenceIdeal.Read.val_main_v46_apply (F := Ideal) x0 x1 x2 x3 x4 x5 x6 x7 _).trans ?_
  rw [Cert.PleReferenceIdeal.Read.val_main_v44_apply]
  exact (mul_comm _ _).trans (congrArg (· * _) (mul_comm _ _))

theorem ref_err (r : Fin 4096) (c : Fin 2048) : Cert.PleReferenceIdeal.Read.val_main_v30 (F := Ideal) x0 x1 x2 x3 x4 x5 x6 x7 (ix2 r c)
    = errOf (Cert.PleReferenceIdeal.Read.val_main_v9 (F := Ideal) x0 x1 x2 (ix2 r c)) (Cert.PleReferenceIdeal.Read.val_main_v26 (F := Ideal) x3 x4 x5 (ix2 r c)) (x6 (ix2 r c)) (x7 (ix2 r c))
      * errOf (Cert.PleReferenceIdeal.Read.val_main_v9 (F := Ideal) x0 x1 x2 (ix2 r c)) (Cert.PleReferenceIdeal.Read.val_main_v26 (F := Ideal) x3 x4 x5 (ix2 r c)) (x6 (ix2 r c)) (x7 (ix2 r c)) := by
  unfold Cert.PleReferenceIdeal.Read.val_main_v30 Cert.PleReferenceIdeal.Read.val_main_v29 Cert.PleReferenceIdeal.Read.val_main_v28 Cert.PleReferenceIdeal.Read.val_main_v27
  generalize Cert.PleReferenceIdeal.Read.val_main_v9 (F := Ideal) x0 x1 x2 = a
  generalize Cert.PleReferenceIdeal.Read.val_main_v26 (F := Ideal) x3 x4 x5 = b
  unfold errOf
  pointwise

theorem ref_bias_row (k : Fin 2048) : Cert.PleReferenceIdeal.Read.val_main_v61 (F := Ideal) x0 x1 x2 x3 x4 x5 x6 x7 (ix2 0 k) = ∑ r : Fin 4096, Cert.PleReferenceIdeal.Read.val_main_v60 (F := Ideal) x0 x1 x2 x3 x4 x5 x6 x7 (ix2 r k) := by
  unfold Cert.PleReferenceIdeal.Read.val_main_v61 Cert.PleReferenceIdeal.Read.val_main_v53 Cert.PleReferenceIdeal.Read.val_main_v52 Cert.PleReferenceIdeal.Read.val_main_v51 Cert.PleReferenceIdeal.Read.val_main_v60 Cert.PleReferenceIdeal.Read.val_main_cst_15 Cert.PleReferenceIdeal.Read.val_main_cst_16
  generalize Cert.PleReferenceIdeal.Read.val_main_v50 (F := Ideal) x0 x1 x2 x3 x4 x5 x6 x7 = d
  pointwise
  simp

theorem ref_gain_row (k : Fin 2048) : Cert.PleReferenceIdeal.Read.val_main_v62 (F := Ideal) x0 x1 x2 x3 x4 x5 x6 x7 (ix2 0 k) = ∑ r : Fin 4096, Cert.PleReferenceIdeal.Read.val_main_v46 (F := Ideal) x0 x1 x2 x3 x4 x5 x6 x7 (ix2 r k) := by
  unfold Cert.PleReferenceIdeal.Read.val_main_v62 Cert.PleReferenceIdeal.Read.val_main_v49 Cert.PleReferenceIdeal.Read.val_main_v48 Cert.PleReferenceIdeal.Read.val_main_v47 Cert.PleReferenceIdeal.Read.val_main_cst_13 Cert.PleReferenceIdeal.Read.val_main_cst_14
  generalize Cert.PleReferenceIdeal.Read.val_main_v46 (F := Ideal) x0 x1 x2 x3 x4 x5 x6 x7 = d
  pointwise
  simp

theorem ref_loss_row (k : Fin 2048) : Cert.PleReferenceIdeal.Read.val_main_v63 (F := Ideal) x0 x1 x2 x3 x4 x5 x6 x7 (ix2 0 k)
    = (∑ r : Fin 4096, Cert.PleReferenceIdeal.Read.val_main_v30 (F := Ideal) x0 x1 x2 x3 x4 x5 x6 x7 (ix2 r k)) * Ideal.ofBits .f32 0x39800000#32 := by
  rw [← half_share]
  unfold Cert.PleReferenceIdeal.Read.val_main_v63 Cert.PleReferenceIdeal.Read.val_main_v58 Cert.PleReferenceIdeal.Read.val_main_v57 Cert.PleReferenceIdeal.Read.val_main_v56 Cert.PleReferenceIdeal.Read.val_main_v55 Cert.PleReferenceIdeal.Read.val_main_v54 Cert.PleReferenceIdeal.Read.val_main_cst_17 Cert.PleReferenceIdeal.Read.val_main_cst_18 Cert.PleReferenceIdeal.Read.val_main_cst_19
  generalize Cert.PleReferenceIdeal.Read.val_main_v30 (F := Ideal) x0 x1 x2 x3 x4 x5 x6 x7 = d
  pointwise

/-- The reference's rows: the bias's gradient, the gain's, the loss per feature, and zeros. -/
theorem ref_acc (i : Fin 8) (k : Fin 2048) : Cert.PleReferenceIdeal.Read.val_main_v64 (F := Ideal) x0 x1 x2 x3 x4 x5 x6 x7 (ix2 i k)
    = if i.val = 0 then ∑ r : Fin 4096, Cert.PleReferenceIdeal.Read.val_main_v60 (F := Ideal) x0 x1 x2 x3 x4 x5 x6 x7 (ix2 r k)
      else if i.val = 1 then ∑ r : Fin 4096, Cert.PleReferenceIdeal.Read.val_main_v46 (F := Ideal) x0 x1 x2 x3 x4 x5 x6 x7 (ix2 r k)
      else if i.val = 2 then (∑ r : Fin 4096, Cert.PleReferenceIdeal.Read.val_main_v30 (F := Ideal) x0 x1 x2 x3 x4 x5 x6 x7 (ix2 r k)) * Ideal.ofBits .f32 0x39800000#32 else 0 := by
  have h0 : ∀ j, Cert.PleReferenceIdeal.Read.val_main_v59 (F := Ideal) j = (0 : EReal) := by
    intro j
    refine (Cert.PleReferenceIdeal.Read.val_main_v59_apply (F := Ideal) j).trans ?_
    show (FloatOps.ofBits (F := Ideal) .f32 0x00000000#32 : EReal) = 0
    pointwise
  have h1 := ref_bias_row x0 x6 x7 x1 x2 x5 x3 x4 k
  have h2 := ref_gain_row x0 x6 x7 x1 x2 x5 x3 x4 k
  have h3 := ref_loss_row x0 x6 x7 x1 x2 x5 x3 x4 k
  unfold Cert.PleReferenceIdeal.Read.val_main_v64
  rw [← h1, ← h2, ← h3]
  generalize Cert.PleReferenceIdeal.Read.val_main_v61 (F := Ideal) x0 x1 x2 x3 x4 x5 x6 x7 = a
  generalize Cert.PleReferenceIdeal.Read.val_main_v62 (F := Ideal) x0 x1 x2 x3 x4 x5 x6 x7 = b
  generalize Cert.PleReferenceIdeal.Read.val_main_v63 (F := Ideal) x0 x1 x2 x3 x4 x5 x6 x7 = d
  generalize Cert.PleReferenceIdeal.Read.val_main_v59 (F := Ideal) = z at h0 ⊢
  pointwise
  by_cases e0 : i.val = 0
  · rw [dif_pos (by omega), if_pos e0]
    exact congrArg (fun q : Fin 1 => a (ix2 q k)) (Subsingleton.elim _ _)
  rw [dif_neg (by omega), if_neg e0]
  by_cases e1 : i.val = 1
  · rw [dif_pos (by omega), if_pos e1]
    exact congrArg (fun q : Fin 1 => b (ix2 q k)) (Subsingleton.elim _ _)
  rw [dif_neg (by omega), if_neg e1]
  by_cases e2 : i.val = 2
  · rw [dif_pos (by omega), if_pos e2]
    exact congrArg (fun q : Fin 1 => d (ix2 q k)) (Subsingleton.elim _ _)
  rw [dif_neg (by omega), if_neg e2]
  exact h0 _

end reference

section payloads
variable (h : Vec Ideal S256x2048 .bf16) (wg : Vec Ideal S2048x2048 .bf16) (b g : Vec Ideal S1x2048 .f32) (p : Vec Ideal S256x256 .f32) (wp : Vec Ideal S256x2048 .bf16)
  (x t : Vec Ideal S256x2048 .f32) (r : Fin 256) (c : Fin 2048)

theorem gate_at : k0_pay3 h wg b (ix2 r c) = gateOf (fun k => h (ix2 r k)) (fun k => wg (ix2 k c)) (b (ix2 0 c)) := by
  unfold k0_pay3 gateOf
  pointwise

theorem t_at : k0_pay6 p wp (ix2 r c) = ∑ j : Fin 256, p (ix2 r j) * wp (ix2 j c) := by
  unfold k0_pay6 k0_pay4
  pointwise

theorem e_at : k0_pay9 p wp g (ix2 r c) = emb (fun j => p (ix2 r j)) (fun j k => wp (ix2 j k)) (g (ix2 0 c)) c := by
  have ht := fun k => t_at p wp r k
  unfold k0_pay9 k0_pay8 k0_pay7
  generalize k0_pay6 p wp = y at ht ⊢
  unfold emb
  rw [← funext ht]
  unfold normed unit
  pointwise

theorem dy_at : k0_pay12 (k0_pay10 h wg b p wp g x) t (ix2 r c) = dyOf (k0_pay3 h wg b (ix2 r c)) (k0_pay9 p wp g (ix2 r c)) (x (ix2 r c)) (t (ix2 r c)) := by
  unfold k0_pay12 k0_pay11 k0_pay10 dyOf
  generalize k0_pay3 h wg b = a
  generalize k0_pay9 p wp g = e
  pointwise

theorem dg_at : k0_pay14 (k0_pay3 h wg b) (k0_pay9 p wp g) (k0_pay10 h wg b p wp g x) t (ix2 r c)
    = dgOf (k0_pay3 h wg b (ix2 r c)) (k0_pay9 p wp g (ix2 r c)) (x (ix2 r c)) (t (ix2 r c)) := by
  unfold dgOf
  rw [← dy_at]
  unfold k0_pay14 k0_pay13
  generalize k0_pay12 (k0_pay10 h wg b p wp g x) t = d
  generalize k0_pay3 h wg b = a
  generalize k0_pay9 p wp g = e
  pointwise

theorem unit_at : k0_pay8 p wp (ix2 r c) = embUnit (fun j => p (ix2 r j)) (fun j k => wp (ix2 j k)) c := by
  have ht := fun k => t_at p wp r k
  unfold k0_pay8 k0_pay7
  generalize k0_pay6 p wp = y at ht ⊢
  unfold embUnit
  rw [← funext ht]
  unfold unit
  pointwise

theorem err_at : k0_pay11 (k0_pay10 h wg b p wp g x) t (ix2 r c) = errOf (k0_pay3 h wg b (ix2 r c)) (k0_pay9 p wp g (ix2 r c)) (x (ix2 r c)) (t (ix2 r c)) := by
  unfold k0_pay11 k0_pay10 errOf
  generalize k0_pay3 h wg b = a
  generalize k0_pay9 p wp g = e
  pointwise

end payloads

theorem gain_at (a x t : FVec Ideal S256x2048 .f32) (r : Fin 256) (c : Fin 2048) : k0_pay15 a x t (ix2 r c) = k0_pay12 x t (ix2 r c) * a (ix2 r c) := by
  unfold k0_pay15
  pointwise

theorem acc0_at (a e x t : FVec Ideal S256x2048 .f32) (o : Vec Ideal S1x2048 .f32) (i : Fin 1) (c : Fin 2048) :
    k0_pay18 a e x t o (ix2 i c) = o (ix2 i c) + ∑ r : Fin 256, k0_pay14 a e x t (ix2 r c) := by
  unfold k0_pay18 k0_pay14
  generalize k0_pay13 a e x t = d
  pointwise

theorem acc1_at (u d : FVec Ideal S256x2048 .f32) (o : Vec Ideal S1x2048 .f32) (i : Fin 1) (c : Fin 2048) :
    k0_pay1 u d o (ix2 i c) = o (ix2 i c) + ∑ r : Fin 256, d (ix2 r c) * u (ix2 r c) := by
  unfold k0_pay1
  pointwise

theorem acc2_at (d : FVec Ideal S256x2048 .f32) (o : Vec Ideal S1x2048 .f32) (i : Fin 1) (c : Fin 2048) :
    k0_pay2 d o (ix2 i c) = o (ix2 i c) + (∑ r : Fin 256, d (ix2 r c) * d (ix2 r c)) * Ideal.ofBits .f32 0x39800000#32 := by
  unfold k0_pay2
  pointwise

theorem zero_at (y : S8x2048.Idx) : k0_pay17 (F := Ideal) y = 0 := by
  unfold k0_pay17
  pointwise

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_12.index t = ![0, 0] :=
  (by decide +kernel : ∀ t : Fin grid0.N, _)

theorem point_lt (t : Fin cfg0.N) : t.val < 16 := lt_of_lt_of_eq t.isLt (show cfg0.N = 16 by decide +kernel)

/-- Row `r` of block `t`. -/
abbrev at_ (t : Fin cfg0.N) (r : Fin 256) : Fin 4096 := ⟨t.val * 256 + r.val, by have := point_lt t; omega⟩

theorem V_h : V m c main_v0 = (m ((c : Thread nD τ).loc main_arg0)) := by
  simp only [V, hostOps0]
  after_reads_at
  rfl

theorem V_wg : V m c main_v1 = (m ((c : Thread nD τ).loc main_arg1)) := by
  simp only [V, hostOps0]
  after_reads_at
  rfl

theorem V_wp : V m c main_v3 = (m ((c : Thread nD τ).loc main_arg4)) := by
  simp only [V, hostOps0]
  after_reads_at
  rfl

theorem V_b (k : Fin 2048) : V m c main_v2 (ix2 0 k) = (m ((c : Thread nD τ).loc main_arg2)) (ix1 k) := by
  simp only [V, hostOps0]
  after_reads_at

theorem V_g (k : Fin 2048) : V m c main_v4 (ix2 0 k) = (m ((c : Thread nD τ).loc main_arg5)) (ix1 k) := by
  simp only [V, hostOps0]
  after_reads_at

theorem iblk_h (t : Fin cfg0.N) (r : Fin 256) (k : Fin 2048) : iblk m c 0 t (ix2 r k) = V m c main_v0 (ix2 (at_ t r) k) := by
  unfold iblk
  generalize V m c = v
  blk_ext [idx t]

theorem iblk_wg (t : Fin cfg0.N) (r : Fin 2048) (k : Fin 2048) : iblk m c 1 t (ix2 r k) = V m c main_v1 (ix2 (r) k) := by
  unfold iblk
  generalize V m c = v
  blk_ext [idx t]

theorem iblk_b (t : Fin cfg0.N) (r : Fin 1) (k : Fin 2048) : iblk m c 2 t (ix2 r k) = V m c main_v2 (ix2 (r) k) := by
  unfold iblk
  generalize V m c = v
  blk_ext [idx t]

theorem iblk_p (t : Fin cfg0.N) (r : Fin 256) (k : Fin 256) : iblk m c 3 t (ix2 r k) = V m c main_arg3 (ix2 (at_ t r) k) := by
  unfold iblk
  generalize V m c = v
  blk_ext [idx t]

theorem iblk_wp (t : Fin cfg0.N) (r : Fin 256) (k : Fin 2048) : iblk m c 4 t (ix2 r k) = V m c main_v3 (ix2 (r) k) := by
  unfold iblk
  generalize V m c = v
  blk_ext [idx t]

theorem iblk_g (t : Fin cfg0.N) (r : Fin 1) (k : Fin 2048) : iblk m c 5 t (ix2 r k) = V m c main_v4 (ix2 (r) k) := by
  unfold iblk
  generalize V m c = v
  blk_ext [idx t]

theorem iblk_x (t : Fin cfg0.N) (r : Fin 256) (k : Fin 2048) : iblk m c 6 t (ix2 r k) = V m c main_arg6 (ix2 (at_ t r) k) := by
  unfold iblk
  generalize V m c = v
  blk_ext [idx t]

theorem iblk_t (t : Fin cfg0.N) (r : Fin 256) (k : Fin 2048) : iblk m c 7 t (ix2 r k) = V m c main_arg7 (ix2 (at_ t r) k) := by
  unfold iblk
  generalize V m c = v
  blk_ext [idx t]

theorem gate_row (t : Fin cfg0.N) (r : Fin 256) (k : Fin 2048) : k0_pay3 (iblk m c 0 t) (iblk m c 1 t) (iblk m c 2 t) (ix2 r k)
    = Cert.PleReferenceIdeal.Read.val_main_v9 (F := Ideal) (m ((c : Thread nD τ).loc main_arg0)) (m ((c : Thread nD τ).loc main_arg1)) (m ((c : Thread nD τ).loc main_arg2)) (ix2 (at_ t r) k) := by
  refine (gate_at _ _ _ r k).trans (Eq.trans ?_ (ref_gate _ _ _ _ _).symm)
  have h1 : (fun j => iblk m c 0 t (ix2 r j)) = fun j => ((m ((c : Thread nD τ).loc main_arg0)) : S4096x2048.Idx → EReal) (ix2 (at_ t r) j) := funext fun j => (iblk_h m c t r j).trans (by rw [V_h])
  have h2 : (fun j => iblk m c 1 t (ix2 j k)) = fun j => ((m ((c : Thread nD τ).loc main_arg1)) : S2048x2048.Idx → EReal) (ix2 j k) := funext fun j => (iblk_wg m c t j k).trans (by rw [V_wg])
  have h3 : iblk m c 2 t (ix2 0 k) = ((m ((c : Thread nD τ).loc main_arg2)) : S2048.Idx → EReal) (ix1 k) := (iblk_b m c t 0 k).trans (V_b m c k)
  rw [h1, h2, h3]

theorem e_row (t : Fin cfg0.N) (r : Fin 256) (k : Fin 2048) : k0_pay9 (iblk m c 3 t) (iblk m c 4 t) (iblk m c 5 t) (ix2 r k)
    = Cert.PleReferenceIdeal.Read.val_main_v26 (F := Ideal) (m ((c : Thread nD τ).loc main_arg3)) (m ((c : Thread nD τ).loc main_arg4)) (m ((c : Thread nD τ).loc main_arg5)) (ix2 (at_ t r) k) := by
  refine (e_at _ _ _ r k).trans (Eq.trans ?_ (ref_e _ _ _ _ _).symm)
  have h1 : (fun j => iblk m c 3 t (ix2 r j)) = fun j => ((m ((c : Thread nD τ).loc main_arg3)) : S4096x256.Idx → EReal) (ix2 (at_ t r) j) := funext fun j => (iblk_p m c t r j).trans (by rw [V_main_arg3])
  have h2 : (fun j k => iblk m c 4 t (ix2 j k)) = fun j k => ((m ((c : Thread nD τ).loc main_arg4)) : S256x2048.Idx → EReal) (ix2 j k) := funext fun j => funext fun k => (iblk_wp m c t j k).trans (by rw [V_wp])
  have h3 : iblk m c 5 t (ix2 0 k) = ((m ((c : Thread nD τ).loc main_arg5)) : S2048.Idx → EReal) (ix1 k) := (iblk_g m c t 0 k).trans (V_g m c k)
  rw [h1, h2, h3]

theorem x_row (t : Fin cfg0.N) (r : Fin 256) (k : Fin 2048) : iblk m c 6 t (ix2 r k) = ((m ((c : Thread nD τ).loc main_arg6)) : S4096x2048.Idx → EReal) (ix2 (at_ t r) k) :=
  (iblk_x m c t r k).trans (by rw [V_main_arg6])

theorem t_row (t : Fin cfg0.N) (r : Fin 256) (k : Fin 2048) : iblk m c 7 t (ix2 r k) = ((m ((c : Thread nD τ).loc main_arg7)) : S4096x2048.Idx → EReal) (ix2 (at_ t r) k) :=
  (iblk_t m c t r k).trans (by rw [V_main_arg7])

theorem dy_row (t : Fin cfg0.N) (r : Fin 256) (k : Fin 2048) : k0_pay12 (k0_pay10 (iblk m c 0 t) (iblk m c 1 t) (iblk m c 2 t) (iblk m c 3 t) (iblk m c 4 t) (iblk m c 5 t) (iblk m c 6 t)) (iblk m c 7 t) (ix2 r k)
    = Cert.PleReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at_ t r) k) := by
  refine (dy_at _ _ _ _ _ _ _ _ r k).trans (Eq.trans ?_ (ref_dy _ _ _ _ _ _ _ _ _ _).symm)
  rw [gate_row, e_row, x_row, t_row]

theorem out_dy (t : Fin cfg0.N) (y : S256x2048.Idx) : (outsAt0 m c t.val t.isLt).1 y = Cert.PleReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at_ t (y 0)) (y 1)) := by
  refine Eq.trans ?_ (dy_row m c t (y 0) (y 1))
  by_cases h : t.val % 16 = 0
  · rw [outsAt0_A m c t h]
    frame_out
    exact congrArg _ (eq_ix2 (n0 := 256) (n1 := 2048) y)
  · rw [outsAt0_B m c t h]
    frame_out
    exact congrArg _ (eq_ix2 (n0 := 256) (n1 := 2048) y)

theorem dg_row (t : Fin cfg0.N) (r : Fin 256) (k : Fin 2048) : k0_pay14 (k0_pay3 (iblk m c 0 t) (iblk m c 1 t) (iblk m c 2 t)) (k0_pay9 (iblk m c 3 t) (iblk m c 4 t) (iblk m c 5 t)) (k0_pay10 (iblk m c 0 t) (iblk m c 1 t) (iblk m c 2 t) (iblk m c 3 t) (iblk m c 4 t) (iblk m c 5 t) (iblk m c 6 t)) (iblk m c 7 t) (ix2 r k)
    = Cert.PleReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at_ t r) k) := by
  refine (dg_at _ _ _ _ _ _ _ _ r k).trans (Eq.trans ?_ (ref_dg _ _ _ _ _ _ _ _ _ _).symm)
  rw [gate_row, e_row, x_row, t_row]

theorem out_dg (t : Fin cfg0.N) (y : S256x2048.Idx) : (outsAt0 m c t.val t.isLt).2.1 y = Cert.PleReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at_ t (y 0)) (y 1)) := by
  refine Eq.trans ?_ (dg_row m c t (y 0) (y 1))
  by_cases h : t.val % 16 = 0
  · rw [outsAt0_A m c t h]
    frame_out
    exact congrArg _ (eq_ix2 (n0 := 256) (n1 := 2048) y)
  · rw [outsAt0_B m c t h]
    frame_out
    exact congrArg _ (eq_ix2 (n0 := 256) (n1 := 2048) y)

theorem final_dy : (dats m 0 c).arrAt 8 cfg0.N = Cert.PleReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  refine (out_dy m c t y).trans ?_
  generalize Cert.PleReferenceIdeal.Read.val_main_v43 (F := Ideal) _ _ _ _ _ _ _ _ = g
  blk_ext [idx t]

theorem final_dg : (dats m 0 c).arrAt 9 cfg0.N = Cert.PleReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  refine (out_dg m c t y).trans ?_
  generalize Cert.PleReferenceIdeal.Read.val_main_v60 (F := Ideal) _ _ _ _ _ _ _ _ = g
  blk_ext [idx t]

theorem unit_row (t : Fin cfg0.N) (r : Fin 256) (k : Fin 2048) : k0_pay8 (iblk m c 3 t) (iblk m c 4 t) (ix2 r k)
    = Cert.PleReferenceIdeal.Read.val_main_v23 (F := Ideal) (m ((c : Thread nD τ).loc main_arg3)) (m ((c : Thread nD τ).loc main_arg4)) (ix2 (at_ t r) k) := by
  refine (unit_at _ _ r k).trans (Eq.trans ?_ (ref_unit _ _ _ _).symm)
  have h1 : (fun j => iblk m c 3 t (ix2 r j)) = fun j => ((m ((c : Thread nD τ).loc main_arg3)) : S4096x256.Idx → EReal) (ix2 (at_ t r) j) := funext fun j => (iblk_p m c t r j).trans (by rw [V_main_arg3])
  have h2 : (fun j k => iblk m c 4 t (ix2 j k)) = fun j k => ((m ((c : Thread nD τ).loc main_arg4)) : S256x2048.Idx → EReal) (ix2 j k) := funext fun j => funext fun k => (iblk_wp m c t j k).trans (by rw [V_wp])
  rw [h1, h2]

theorem gain_row (t : Fin cfg0.N) (r : Fin 256) (k : Fin 2048) : k0_pay15 (k0_pay3 (iblk m c 0 t) (iblk m c 1 t) (iblk m c 2 t)) (k0_pay10 (iblk m c 0 t) (iblk m c 1 t) (iblk m c 2 t) (iblk m c 3 t) (iblk m c 4 t) (iblk m c 5 t) (iblk m c 6 t)) (iblk m c 7 t) (ix2 r k) * k0_pay8 (iblk m c 3 t) (iblk m c 4 t) (ix2 r k)
    = Cert.PleReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at_ t r) k) := by
  refine Eq.trans ?_ (ref_gain _ _ _ _ _ _ _ _ _ _).symm
  rw [gain_at, dy_row, gate_row, unit_row]

theorem err_row (t : Fin cfg0.N) (r : Fin 256) (k : Fin 2048) : k0_pay11 (k0_pay10 (iblk m c 0 t) (iblk m c 1 t) (iblk m c 2 t) (iblk m c 3 t) (iblk m c 4 t) (iblk m c 5 t) (iblk m c 6 t)) (iblk m c 7 t) (ix2 r k) * k0_pay11 (k0_pay10 (iblk m c 0 t) (iblk m c 1 t) (iblk m c 2 t) (iblk m c 3 t) (iblk m c 4 t) (iblk m c 5 t) (iblk m c 6 t)) (iblk m c 7 t) (ix2 r k)
    = Cert.PleReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (at_ t r) k) := by
  refine Eq.trans ?_ (ref_err _ _ _ _ _ _ _ _ _ _).symm
  rw [err_at, gate_row, e_row, x_row, t_row]

/-- What point `t` adds to the block: its rows' shares of the three sums. -/
def term (t : Fin cfg0.N) (y : S8x2048.Idx) : EReal :=
  if (y 0).val = 0 then ∑ r : Fin 256, k0_pay14 (k0_pay3 (iblk m c 0 t) (iblk m c 1 t) (iblk m c 2 t)) (k0_pay9 (iblk m c 3 t) (iblk m c 4 t) (iblk m c 5 t)) (k0_pay10 (iblk m c 0 t) (iblk m c 1 t) (iblk m c 2 t) (iblk m c 3 t) (iblk m c 4 t) (iblk m c 5 t) (iblk m c 6 t)) (iblk m c 7 t) (ix2 r (y 1))
  else if (y 0).val = 1 then ∑ r : Fin 256, k0_pay15 (k0_pay3 (iblk m c 0 t) (iblk m c 1 t) (iblk m c 2 t)) (k0_pay10 (iblk m c 0 t) (iblk m c 1 t) (iblk m c 2 t) (iblk m c 3 t) (iblk m c 4 t) (iblk m c 5 t) (iblk m c 6 t)) (iblk m c 7 t) (ix2 r (y 1)) * k0_pay8 (iblk m c 3 t) (iblk m c 4 t) (ix2 r (y 1))
  else if (y 0).val = 2 then (∑ r : Fin 256, k0_pay11 (k0_pay10 (iblk m c 0 t) (iblk m c 1 t) (iblk m c 2 t) (iblk m c 3 t) (iblk m c 4 t) (iblk m c 5 t) (iblk m c 6 t)) (iblk m c 7 t) (ix2 r (y 1)) * k0_pay11 (k0_pay10 (iblk m c 0 t) (iblk m c 1 t) (iblk m c 2 t) (iblk m c 3 t) (iblk m c 4 t) (iblk m c 5 t) (iblk m c 6 t)) (iblk m c 7 t) (ix2 r (y 1))) * Ideal.ofBits .f32 0x39800000#32
  else 0

theorem start0 (a e x t : FVec Ideal S256x2048 .f32) (o : Vec Ideal S1x2048 .f32) (c : Fin 2048) (h : o (ix2 0 c) = 0) :
    k0_pay18 a e x t o (ix2 0 c) = 0 + ∑ r : Fin 256, k0_pay14 a e x t (ix2 r c) := by
  rw [acc0_at, h]

theorem start1 (u d : FVec Ideal S256x2048 .f32) (o : Vec Ideal S1x2048 .f32) (c : Fin 2048) (h : o (ix2 0 c) = 0) :
    k0_pay1 u d o (ix2 0 c) = 0 + ∑ r : Fin 256, d (ix2 r c) * u (ix2 r c) := by
  rw [acc1_at, h]

theorem start2 (d : FVec Ideal S256x2048 .f32) (o : Vec Ideal S1x2048 .f32) (c : Fin 2048) (h : o (ix2 0 c) = 0) :
    k0_pay2 d o (ix2 0 c) = 0 + (∑ r : Fin 256, d (ix2 r c) * d (ix2 r c)) * Ideal.ofBits .f32 0x39800000#32 := by
  rw [acc2_at, h]

/-- The second row before its first sum is added. -/
theorem before1 (w0 : Vec Ideal S1x2048 .f32) (x : S8x2048.Idx) (h : (x 0).val = 1) :
    View.canon (Val := Elt Ideal) (e := .f32) [⟨Rect.unit ![0, 0] ![1, 2048] inb_S8x2048_S1x2048_0_0, w0⟩, ⟨Rect.unit ![0, 0] ![8, 2048] inb_S8x2048_S8x2048_0_0, k0_pay17 (F := Ideal)⟩] x = 0 := by
  refine (View.canon_cons_of_not_mem _ _ (Rect.not_mem_set_of_axis _ x 0 0 1 rfl rfl rfl (Or.inr (by omega)))).trans ?_
  rw [View.canon_unit_zero (by funext a; revert a; decide)]
  exact zero_at x

/-- The third row before its first sum is added. -/
theorem before2 (w0 w1 : Vec Ideal S1x2048 .f32) (x : S8x2048.Idx) (h : (x 0).val = 2) :
    View.canon (Val := Elt Ideal) (e := .f32) [⟨Rect.unit ![1, 0] ![1, 2048] inb_S8x2048_S1x2048_1_0, w1⟩, ⟨Rect.unit ![0, 0] ![1, 2048] inb_S8x2048_S1x2048_0_0, w0⟩,
      ⟨Rect.unit ![0, 0] ![8, 2048] inb_S8x2048_S8x2048_0_0, k0_pay17 (F := Ideal)⟩] x = 0 := by
  refine (View.canon_cons_of_not_mem _ _ (Rect.not_mem_set_of_axis _ x 0 1 1 rfl rfl rfl (Or.inr (by omega)))).trans ?_
  refine (View.canon_cons_of_not_mem _ _ (Rect.not_mem_set_of_axis _ x 0 0 1 rfl rfl rfl (Or.inr (by omega)))).trans ?_
  rw [View.canon_unit_zero (by funext a; revert a; decide)]
  exact zero_at x

theorem stepA (t : Fin cfg0.N) (h : t.val % 16 = 0) (y : S8x2048.Idx) : (outsAt0 m c t.val t.isLt).2.2.2.2 y = 0 + term m c t y := by
  rw [outsAt0_A m c t h]
  frame_out
  simp only [View.readCov_eq_canon']
  unfold term
  by_cases hy0 : (y 0).val = 0
  · rw [if_pos hy0]
    have he : (Rect.unit ![0, 0] ![1, 2048] inb_S8x2048_S1x2048_0_0 : Rect S8x2048).emb (ix2 (n0 := 1) (n1 := 2048) 0 (y 1)) = y :=
      Rect.emb_eq_of_coords _ _ y fun a => by
        match a with
        | ⟨0, _⟩ => exact hy0
        | ⟨1, _⟩ => show (y 1).val = 0 + 1 * (y 1).val; omega
    refine (View.canon_cons_of_not_mem _ _ (Rect.not_mem_set_of_axis _ y 0 2 1 rfl rfl rfl (Or.inl (by omega)))).trans ((View.canon_cons_of_not_mem _ _ (Rect.not_mem_set_of_axis _ y 0 1 1 rfl rfl rfl (Or.inl (by omega)))).trans ?_)
    refine (congrArg _ he.symm).trans ((View.canon_cons_emb _ _ _ _).trans ?_)
    refine start0 _ _ _ _ _ (y 1) ?_
    rw [View.canon_unit_zero (by funext a; revert a; decide)]
    exact zero_at _
  rw [if_neg hy0]
  by_cases hy1 : (y 0).val = 1
  · rw [if_pos hy1]
    have he : (Rect.unit ![1, 0] ![1, 2048] inb_S8x2048_S1x2048_1_0 : Rect S8x2048).emb (ix2 (n0 := 1) (n1 := 2048) 0 (y 1)) = y :=
      Rect.emb_eq_of_coords _ _ y fun a => by
        match a with
        | ⟨0, _⟩ => exact hy1
        | ⟨1, _⟩ => show (y 1).val = 0 + 1 * (y 1).val; omega
    refine (View.canon_cons_of_not_mem _ _ (Rect.not_mem_set_of_axis _ y 0 2 1 rfl rfl rfl (Or.inl (by omega)))).trans ?_
    refine (congrArg _ he.symm).trans ((View.canon_cons_emb _ _ _ _).trans ?_)
    exact start1 _ _ _ (y 1) (before1 _ _ rfl)
  rw [if_neg hy1]
  by_cases hy2 : (y 0).val = 2
  · rw [if_pos hy2]
    have he : (Rect.unit ![2, 0] ![1, 2048] inb_S8x2048_S1x2048_2_0 : Rect S8x2048).emb (ix2 (n0 := 1) (n1 := 2048) 0 (y 1)) = y :=
      Rect.emb_eq_of_coords _ _ y fun a => by
        match a with
        | ⟨0, _⟩ => exact hy2
        | ⟨1, _⟩ => show (y 1).val = 0 + 1 * (y 1).val; omega
    refine (congrArg _ he.symm).trans ((View.canon_cons_emb _ _ _ _).trans ?_)
    exact start2 _ _ (y 1) (before2 _ _ _ rfl)
  rw [if_neg hy2, add_zero]
  refine (View.canon_cons_of_not_mem _ _ (Rect.not_mem_set_of_axis _ y 0 2 1 rfl rfl rfl (Or.inr (by omega)))).trans ?_
  refine (View.canon_cons_of_not_mem _ _ (Rect.not_mem_set_of_axis _ y 0 1 1 rfl rfl rfl (Or.inr (by omega)))).trans ?_
  refine (View.canon_cons_of_not_mem _ _ (Rect.not_mem_set_of_axis _ y 0 0 1 rfl rfl rfl (Or.inr (by omega)))).trans ?_
  rw [View.canon_unit_zero (by funext a; revert a; decide)]
  exact zero_at y

theorem stepB (t : Fin cfg0.N) (h : ¬ t.val % 16 = 0) (y : S8x2048.Idx) :
    (outsAt0 m c t.val t.isLt).2.2.2.2 y = (outsAt0 m c (t.val - 1) (Nat.lt_of_le_of_lt (Nat.sub_le _ _) t.isLt)).2.2.2.2 y + term m c t y := by
  rw [outsAt0_B m c t h]
  frame_out
  generalize (outsAt0 m c (t.val - 1) (Nat.lt_of_le_of_lt (Nat.sub_le _ _) t.isLt)).2.2.2.2 = o
  unfold term
  by_cases hy0 : (y 0).val = 0
  · rw [if_pos hy0]
    refine (View.read_writes_cons_miss_of_axis _ _ _ _ y 0 2 1 rfl rfl rfl (Or.inl (by omega))).trans ?_
    refine (View.read_writes_cons_miss_of_axis _ _ _ _ y 0 1 1 rfl rfl rfl (Or.inl (by omega))).trans ?_
    refine (View.read_writes_cons_hit_of_coords _ _ _ _ _ (ix2 (n0 := 1) (n1 := 2048) 0 (y 1)) y (fun a => ?_)).trans ?_
    · match a with
      | ⟨0, _⟩ => exact hy0
      | ⟨1, _⟩ => show (y 1).val = 0 + 1 * (y 1).val; omega
    refine (acc0_at _ _ _ _ _ 0 (y 1)).trans (congrArg (· + _) ?_)
    refine congrArg o (funext fun a => Fin.ext ?_)
    match a with
    | ⟨0, _⟩ => exact hy0.symm
    | ⟨1, _⟩ => show 0 + 1 * (y 1).val = (y 1).val; omega
  rw [if_neg hy0]
  by_cases hy1 : (y 0).val = 1
  · rw [if_pos hy1]
    refine (View.read_writes_cons_miss_of_axis _ _ _ _ y 0 2 1 rfl rfl rfl (Or.inl (by omega))).trans ?_
    refine (View.read_writes_cons_hit_of_coords _ _ _ _ _ (ix2 (n0 := 1) (n1 := 2048) 0 (y 1)) y (fun a => ?_)).trans ?_
    · match a with
      | ⟨0, _⟩ => exact hy1
      | ⟨1, _⟩ => show (y 1).val = 0 + 1 * (y 1).val; omega
    refine (acc1_at _ _ _ 0 (y 1)).trans (congrArg (· + _) ?_)
    refine congrArg o (funext fun a => Fin.ext ?_)
    match a with
    | ⟨0, _⟩ => exact hy1.symm
    | ⟨1, _⟩ => show 0 + 1 * (y 1).val = (y 1).val; omega
  rw [if_neg hy1]
  by_cases hy2 : (y 0).val = 2
  · rw [if_pos hy2]
    refine (View.read_writes_cons_hit_of_coords _ _ _ _ _ (ix2 (n0 := 1) (n1 := 2048) 0 (y 1)) y (fun a => ?_)).trans ?_
    · match a with
      | ⟨0, _⟩ => exact hy2
      | ⟨1, _⟩ => show (y 1).val = 0 + 1 * (y 1).val; omega
    refine (acc2_at _ _ 0 (y 1)).trans (congrArg (· + _) ?_)
    refine congrArg o (funext fun a => Fin.ext ?_)
    match a with
    | ⟨0, _⟩ => exact hy2.symm
    | ⟨1, _⟩ => show 0 + 1 * (y 1).val = (y 1).val; omega
  rw [if_neg hy2, add_zero]
  refine (View.read_writes_cons_miss_of_axis _ _ _ _ y 0 2 1 rfl rfl rfl (Or.inr (by omega))).trans ?_
  refine (View.read_writes_cons_miss_of_axis _ _ _ _ y 0 1 1 rfl rfl rfl (Or.inr (by omega))).trans ?_
  refine (View.read_writes_cons_miss_of_axis _ _ _ _ y 0 0 1 rfl rfl rfl (Or.inr (by omega))).trans ?_
  rw [View.writes_nil, (hs0_12 t).read_unread]

/-- The block after the last point. -/
theorem last (t : Fin cfg0.N) (ht : t.val + 1 = cfg0.N) (y : S8x2048.Idx) : (outsAt0 m c t.val t.isLt).2.2.2.2 y
    = Cert.PleReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (y 0) (y 1)) := by
  refine (Pipeline.eq_sum_fin_of_reset_step_apply_last (fun n h => (outsAt0 m c n h).2.2.2.2) 16 (fun _ => (0 : EReal)) (term m c)
    (fun t h y => stepA m c t h y) (fun t h y => stepB m c t h y) (le_of_eq N_0) t ht y).trans ?_
  rw [zero_add]
  refine Eq.trans ?_ (ref_acc _ _ _ _ _ _ _ _ (y 0) (y 1)).symm
  unfold term
  by_cases hy0 : (y 0).val = 0
  · simp only [if_pos hy0]
    refine Fin.sum_mul_add_congr (S := 16) (n := 256) (L := 4096) (F := fun t k => k0_pay14 (k0_pay3 (iblk m c 0 t) (iblk m c 1 t) (iblk m c 2 t)) (k0_pay9 (iblk m c 3 t) (iblk m c 4 t) (iblk m c 5 t)) (k0_pay10 (iblk m c 0 t) (iblk m c 1 t) (iblk m c 2 t) (iblk m c 3 t) (iblk m c 4 t) (iblk m c 5 t) (iblk m c 6 t)) (iblk m c 7 t) (ix2 k (y 1))) fun s r hl => ?_
    exact dg_row m c s r (y 1)
  simp only [if_neg hy0]
  by_cases hy1 : (y 0).val = 1
  · simp only [if_pos hy1]
    refine Fin.sum_mul_add_congr (S := 16) (n := 256) (L := 4096) (F := fun t k => k0_pay15 (k0_pay3 (iblk m c 0 t) (iblk m c 1 t) (iblk m c 2 t)) (k0_pay10 (iblk m c 0 t) (iblk m c 1 t) (iblk m c 2 t) (iblk m c 3 t) (iblk m c 4 t) (iblk m c 5 t) (iblk m c 6 t)) (iblk m c 7 t) (ix2 k (y 1)) * k0_pay8 (iblk m c 3 t) (iblk m c 4 t) (ix2 k (y 1))) fun s r hl => ?_
    exact gain_row m c s r (y 1)
  simp only [if_neg hy1]
  by_cases hy2 : (y 0).val = 2
  · simp only [if_pos hy2]
    refine (sum_scale (n := 16) (fun t : Fin cfg0.N => ∑ k : Fin 256, k0_pay11 (k0_pay10 (iblk m c 0 t) (iblk m c 1 t) (iblk m c 2 t) (iblk m c 3 t) (iblk m c 4 t) (iblk m c 5 t) (iblk m c 6 t)) (iblk m c 7 t) (ix2 k (y 1)) * k0_pay11 (k0_pay10 (iblk m c 0 t) (iblk m c 1 t) (iblk m c 2 t) (iblk m c 3 t) (iblk m c 4 t) (iblk m c 5 t) (iblk m c 6 t)) (iblk m c 7 t) (ix2 k (y 1))) (fun t => Finset.sum_nonneg fun k _ => sq_nonneg _) _).trans (congrArg (· * _) ?_)
    refine Fin.sum_mul_add_congr (S := 16) (n := 256) (L := 4096) (F := fun t k => k0_pay11 (k0_pay10 (iblk m c 0 t) (iblk m c 1 t) (iblk m c 2 t) (iblk m c 3 t) (iblk m c 4 t) (iblk m c 5 t) (iblk m c 6 t)) (iblk m c 7 t) (ix2 k (y 1)) * k0_pay11 (k0_pay10 (iblk m c 0 t) (iblk m c 1 t) (iblk m c 2 t) (iblk m c 3 t) (iblk m c 4 t) (iblk m c 5 t) (iblk m c 6 t)) (iblk m c 7 t) (ix2 k (y 1))) fun s r hl => ?_
    exact err_row m c s r (y 1)
  simp only [if_neg hy2]
  exact Finset.sum_const_zero

theorem final_acc : (dats m 0 c).arrAt 12 cfg0.N = Cert.PleReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  refine (last m c t ?_ y).trans ?_
  · have h16 : cfg0.N = 16 := N_0
    have := (flush0_12 t).mp hf
    have := point_lt t
    omega
  generalize Cert.PleReferenceIdeal.Read.val_main_v64 (F := Ideal) _ _ _ _ _ _ _ _ = g
  blk_ext [idx t]

end Cert.PleIdeal.Tie
end
-- ==== Proof.lean ====
/- The claim: the run of the kernel and of its idealization, the run of the reference, that the idealization is the
   kernel with its mask constant named, and that the idealization's two arrays of the values' gradient are the reference's;
   then the same of the calls that are one product each. -/
module

public import proofs.«01_k».proof.Defs
public import proofs.«01_k».proof.Proof.KernelFrame
public import proofs.«01_k».proof.Proof.Value
public import proofs.«01_k».proof.Proof.Gen.ReferenceIdeal.Read
public import proofs.«01_k».proof.Proof.Gen.GradIn.Frame
public import proofs.«01_k».proof.Proof.GradInValue
public import proofs.«01_k».proof.Proof.Gen.GradOut.Frame
public import proofs.«01_k».proof.Proof.GradOutValue
public import proofs.«01_k».proof.Proof.Gen.OutBwd.Frame
public import proofs.«01_k».proof.Proof.OutBwdValue
public import proofs.«01_k».proof.Proof.Gen.GateGrad.Frame
public import proofs.«01_k».proof.Proof.GateGradValue
public import proofs.«01_k».proof.Proof.Gen.ProjGrad.Frame
public import proofs.«01_k».proof.Proof.ProjGradValue
public import proofs.«01_k».proof.Proof.Gen.FwdOut.Frame
public import proofs.«01_k».proof.Proof.FwdOutValue
public import proofs.«01_k».proof.Proof.Gen.GateBwd.Frame
public import proofs.«01_k».proof.Proof.GateBwdValue
public import proofs.«01_k».proof.Proof.Gen.Ple.Frame
public import proofs.«01_k».proof.Proof.PleValue
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ => Cert.KernelIdeal.Bwd.frame m ρ

/-- The reference writes no argument and has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The mask constant is named −∞. -/
theorem preserves : Cert.preserves_Kernel_KernelIdeal :=
  IdealRules.named_const.statement Cert.KernelIdeal.κ "mask" .f32 0xF149F2CA#32 ⊥ rfl

/-- The two arrays of the values' gradient are the reference's. -/
theorem algebraic : Cert.algebraic_KernelIdeal_ReferenceIdeal := by
  intro m g m' g' hpre hagree
  have run := θ_run_and (Cert.KernelIdeal.Gen.frame_of m g (Cert.KernelIdeal.Bwd.dats m) (Cert.KernelIdeal.Bwd.A_eq m) (Cert.KernelIdeal.Bwd.run_main m g))
    (Cert.KernelIdeal.Bwd.run_main m g)
  refine ⟨fun c => Cert.ReferenceIdeal.Read.val_main_v84 (F := Ideal) (m ((c.tc : Thread _ _).loc Cert.KernelIdeal.main_arg0)) (m ((c.tc : Thread _ _).loc Cert.KernelIdeal.main_arg1))
      (m ((c.tc : Thread _ _).loc Cert.KernelIdeal.main_arg3)) (m ((c.tc : Thread _ _).loc Cert.KernelIdeal.main_arg4)) (m ((c.tc : Thread _ _).loc Cert.KernelIdeal.main_arg6)),
    fun c => Cert.ReferenceIdeal.Read.val_main_v86 (F := Ideal) (m ((c.tc : Thread _ _).loc Cert.KernelIdeal.main_arg0)) (m ((c.tc : Thread _ _).loc Cert.KernelIdeal.main_arg1))
      (m ((c.tc : Thread _ _).loc Cert.KernelIdeal.main_arg3)) (m ((c.tc : Thread _ _).loc Cert.KernelIdeal.main_arg4)) (m ((c.tc : Thread _ _).loc Cert.KernelIdeal.main_arg6)),
    (θ_run Cert.KernelIdeal.defs _ _).mono (fun r h c => ?_) run, ?_⟩
  · exact ⟨((h.2 c).1 16).trans (Cert.KernelIdeal.Bwd.final_dvc m c), ((h.2 c).1 17).trans (Cert.KernelIdeal.Bwd.final_dvp m c), h.1 c⟩
  refine (θ_run Cert.ReferenceIdeal.defs _ _).mono (fun r h c => ⟨(h c).1.trans ?_, (h c).2.1.trans ?_, (h c).2.2⟩)
    (Cert.ReferenceIdeal.Value.run (F := Ideal) m' g')
  · obtain ⟨h0, h1, _, h3, h4, _, h6⟩ := hagree c
    rw [Cert.ReferenceIdeal.Read.val_main_v84_eq m' c, h0, h1, h3, h4, h6]
  · obtain ⟨h0, h1, _, h3, h4, _, h6⟩ := hagree c
    rw [Cert.ReferenceIdeal.Read.val_main_v86_eq m' c, h0, h1, h3, h4, h6]

/-! ## The call whose result is the gradient of the first weight -/

theorem gradIn_frame : Cert.quiescent_GradIn := fun m ρ _ => Cert.GradIn.Gen.frame m ρ

theorem gradIn_frame_ideal : Cert.quiescent_GradInIdeal := fun m ρ _ => Cert.GradInIdeal.Gen.frame m ρ

theorem gradIn_frame_reference : Cert.quiescent_GradInReferenceIdeal := fun m ρ _ =>
  (θ_run Cert.GradInReferenceIdeal.defs _ _).mono (fun r h => ⟨fun c => (h c).2,
      Idealize.ShloMosaic.sem_eq_zero_of_no_sems (by decide) r.2⟩)
    (Cert.GradInReferenceIdeal.Value.run (F := Ideal) m ρ)

theorem gradIn_algebraic : Cert.algebraic_GradInIdeal_GradInReferenceIdeal := by
  intro m g m' g' hpre hagree
  refine ⟨fun c => Cert.GradInReferenceIdeal.Read.val_main_v5 (F := Ideal) (m ((c.tc : Thread _ _).loc Cert.GradInIdeal.main_arg0)) (m ((c.tc : Thread _ _).loc Cert.GradInIdeal.main_arg2)),
    (θ_run Cert.GradInIdeal.defs _ _).mono (fun r h c => ⟨(h c).1.trans (Cert.GradInIdeal.Tie.final m c), (h c).2⟩) (Cert.GradInIdeal.Value.run_blocks m g), ?_⟩
  refine (θ_run Cert.GradInReferenceIdeal.defs _ _).mono (fun r h c => ⟨(h c).1.trans ?_, (h c).2⟩) (Cert.GradInReferenceIdeal.Value.run (F := Ideal) m' g')
  obtain ⟨h0, _, h2⟩ := hagree c
  rw [Cert.GradInReferenceIdeal.Read.val_main_v5_eq, h0, h2]

/-! ## The call whose result is the gradient of the second weight -/

theorem gradOut_frame : Cert.quiescent_GradOut := fun m ρ _ => Cert.GradOut.Gen.frame m ρ

theorem gradOut_frame_ideal : Cert.quiescent_GradOutIdeal := fun m ρ _ => Cert.GradOutIdeal.Gen.frame m ρ

theorem gradOut_frame_reference : Cert.quiescent_GradOutReferenceIdeal := fun m ρ _ =>
  (θ_run Cert.GradOutReferenceIdeal.defs _ _).mono (fun r h => ⟨fun c => (h c).2,
      Idealize.ShloMosaic.sem_eq_zero_of_no_sems (by decide) r.2⟩)
    (Cert.GradOutReferenceIdeal.Value.run (F := Ideal) m ρ)

theorem gradOut_algebraic : Cert.algebraic_GradOutIdeal_GradOutReferenceIdeal := by
  intro m g m' g' hpre hagree
  refine ⟨fun c => Cert.GradOutReferenceIdeal.Read.val_main_v3 (F := Ideal) (m ((c.tc : Thread _ _).loc Cert.GradOutIdeal.main_arg0)) (m ((c.tc : Thread _ _).loc Cert.GradOutIdeal.main_arg2)),
    (θ_run Cert.GradOutIdeal.defs _ _).mono (fun r h c => ⟨(h c).1.trans (Cert.GradOutIdeal.Tie.final m c), (h c).2⟩) (Cert.GradOutIdeal.Value.run_blocks m g), ?_⟩
  refine (θ_run Cert.GradOutReferenceIdeal.defs _ _).mono (fun r h c => ⟨(h c).1.trans ?_, (h c).2⟩) (Cert.GradOutReferenceIdeal.Value.run (F := Ideal) m' g')
  obtain ⟨h0, _, h2⟩ := hagree c
  rw [Cert.GradOutReferenceIdeal.Read.val_main_v3_eq, h0, h2]

/-! ## The call whose result is the gradient of the mixed activations -/

theorem outBwd_frame : Cert.quiescent_OutBwd := fun m ρ _ => Cert.OutBwd.Gen.frame m ρ

theorem outBwd_frame_ideal : Cert.quiescent_OutBwdIdeal := fun m ρ _ => Cert.OutBwdIdeal.Gen.frame m ρ

theorem outBwd_frame_reference : Cert.quiescent_OutBwdReferenceIdeal := fun m ρ _ =>
  (θ_run Cert.OutBwdReferenceIdeal.defs _ _).mono (fun r h => ⟨fun c => (h c).2,
      Idealize.ShloMosaic.sem_eq_zero_of_no_sems (by decide) r.2⟩)
    (Cert.OutBwdReferenceIdeal.Value.run (F := Ideal) m ρ)

theorem outBwd_algebraic : Cert.algebraic_OutBwdIdeal_OutBwdReferenceIdeal := by
  intro m g m' g' hpre hagree
  refine ⟨fun c => Cert.OutBwdReferenceIdeal.Read.val_main_v1 (F := Ideal) (m ((c.tc : Thread _ _).loc Cert.OutBwdIdeal.main_arg1)) (m ((c.tc : Thread _ _).loc Cert.OutBwdIdeal.main_arg2)),
    (θ_run Cert.OutBwdIdeal.defs _ _).mono (fun r h c => ⟨(h c).1.trans (Cert.OutBwdIdeal.Tie.final m c), (h c).2⟩) (Cert.OutBwdIdeal.Value.run_blocks m g), ?_⟩
  refine (θ_run Cert.OutBwdReferenceIdeal.defs _ _).mono (fun r h c => ⟨(h c).1.trans ?_, (h c).2⟩) (Cert.OutBwdReferenceIdeal.Value.run (F := Ideal) m' g')
  obtain ⟨_, h1, h2⟩ := hagree c
  rw [Cert.OutBwdReferenceIdeal.Read.val_main_v1_eq, h1, h2]

/-! ## The call whose result is the gradient of the gate weight -/

theorem gateGrad_frame : Cert.quiescent_GateGrad := fun m ρ _ => Cert.GateGrad.Gen.frame m ρ

theorem gateGrad_frame_ideal : Cert.quiescent_GateGradIdeal := fun m ρ _ => Cert.GateGradIdeal.Gen.frame m ρ

theorem gateGrad_frame_reference : Cert.quiescent_GateGradReferenceIdeal := fun m ρ _ =>
  (θ_run Cert.GateGradReferenceIdeal.defs _ _).mono (fun r h => ⟨fun c => (h c).2,
      Idealize.ShloMosaic.sem_eq_zero_of_no_sems (by decide) r.2⟩)
    (Cert.GateGradReferenceIdeal.Value.run (F := Ideal) m ρ)

theorem gateGrad_algebraic : Cert.algebraic_GateGradIdeal_GateGradReferenceIdeal := by
  intro m g m' g' hpre hagree
  refine ⟨fun c => Cert.GateGradReferenceIdeal.Read.val_main_v3 (F := Ideal) (m ((c.tc : Thread _ _).loc Cert.GateGradIdeal.main_arg0)) (m ((c.tc : Thread _ _).loc Cert.GateGradIdeal.main_arg2)),
    (θ_run Cert.GateGradIdeal.defs _ _).mono (fun r h c => ⟨(h c).1.trans (Cert.GateGradIdeal.Tie.final m c), (h c).2⟩) (Cert.GateGradIdeal.Value.run_blocks m g), ?_⟩
  refine (θ_run Cert.GateGradReferenceIdeal.defs _ _).mono (fun r h c => ⟨(h c).1.trans ?_, (h c).2⟩) (Cert.GateGradReferenceIdeal.Value.run (F := Ideal) m' g')
  obtain ⟨h0, _, h2⟩ := hagree c
  rw [Cert.GateGradReferenceIdeal.Read.val_main_v3_eq, h0, h2]

/-! ## The call whose result is the gradient of the embedding projection -/

theorem projGrad_frame : Cert.quiescent_ProjGrad := fun m ρ _ => Cert.ProjGrad.Gen.frame m ρ

theorem projGrad_frame_ideal : Cert.quiescent_ProjGradIdeal := fun m ρ _ => Cert.ProjGradIdeal.Gen.frame m ρ

theorem projGrad_frame_reference : Cert.quiescent_ProjGradReferenceIdeal := fun m ρ _ =>
  (θ_run Cert.ProjGradReferenceIdeal.defs _ _).mono (fun r h => ⟨fun c => (h c).2,
      Idealize.ShloMosaic.sem_eq_zero_of_no_sems (by decide) r.2⟩)
    (Cert.ProjGradReferenceIdeal.Value.run (F := Ideal) m ρ)

theorem projGrad_algebraic : Cert.algebraic_ProjGradIdeal_ProjGradReferenceIdeal := by
  intro m g m' g' hpre hagree
  refine ⟨fun c => Cert.ProjGradReferenceIdeal.Read.val_main_v3 (F := Ideal) (m ((c.tc : Thread _ _).loc Cert.ProjGradIdeal.main_arg0)) (m ((c.tc : Thread _ _).loc Cert.ProjGradIdeal.main_arg2)),
    (θ_run Cert.ProjGradIdeal.defs _ _).mono (fun r h c => ⟨(h c).1.trans (Cert.ProjGradIdeal.Tie.final m c), (h c).2⟩) (Cert.ProjGradIdeal.Value.run_blocks m g), ?_⟩
  refine (θ_run Cert.ProjGradReferenceIdeal.defs _ _).mono (fun r h c => ⟨(h c).1.trans ?_, (h c).2⟩) (Cert.ProjGradReferenceIdeal.Value.run (F := Ideal) m' g')
  obtain ⟨h0, _, h2⟩ := hagree c
  rw [Cert.ProjGradReferenceIdeal.Read.val_main_v3_eq, h0, h2]

/-! ## The call whose result is the mixer's output added to the input, normalized -/

theorem fwdOut_frame : Cert.quiescent_FwdOut := fun m ρ _ => Cert.FwdOut.Gen.frame m ρ

theorem fwdOut_frame_ideal : Cert.quiescent_FwdOutIdeal := fun m ρ _ => Cert.FwdOutIdeal.Gen.frame m ρ

theorem fwdOut_frame_reference : Cert.quiescent_FwdOutReferenceIdeal := fun m ρ _ =>
  (θ_run Cert.FwdOutReferenceIdeal.defs _ _).mono (fun r h => ⟨fun c => (h c).2.2.2,
      Idealize.ShloMosaic.sem_eq_zero_of_no_sems (by decide) r.2⟩)
    (Cert.FwdOutReferenceIdeal.Value.run (F := Ideal) m ρ)

theorem fwdOut_algebraic : Cert.algebraic_FwdOutIdeal_FwdOutReferenceIdeal := by
  intro m g m' g' hpre hagree
  refine ⟨fun c => Cert.FwdOutReferenceIdeal.Read.val_main_v1 (F := Ideal) (m ((c.tc : Thread _ _).loc Cert.FwdOutIdeal.main_arg0)) (m ((c.tc : Thread _ _).loc Cert.FwdOutIdeal.main_arg1)) (m ((c.tc : Thread _ _).loc Cert.FwdOutIdeal.main_arg2)), fun c => Cert.FwdOutReferenceIdeal.Read.val_main_v15 (F := Ideal) (m ((c.tc : Thread _ _).loc Cert.FwdOutIdeal.main_arg0)) (m ((c.tc : Thread _ _).loc Cert.FwdOutIdeal.main_arg1)) (m ((c.tc : Thread _ _).loc Cert.FwdOutIdeal.main_arg2)) (m ((c.tc : Thread _ _).loc Cert.FwdOutIdeal.main_arg3)), fun c => Cert.FwdOutReferenceIdeal.Read.val_main_v16 (F := Ideal) (m ((c.tc : Thread _ _).loc Cert.FwdOutIdeal.main_arg0)) (m ((c.tc : Thread _ _).loc Cert.FwdOutIdeal.main_arg1)) (m ((c.tc : Thread _ _).loc Cert.FwdOutIdeal.main_arg2)) (m ((c.tc : Thread _ _).loc Cert.FwdOutIdeal.main_arg3)),
    (θ_run Cert.FwdOutIdeal.defs _ _).mono (fun r h c => ⟨(h c).1.trans (Cert.FwdOutIdeal.Tie.final_x1 m c), (h c).2.1.trans (Cert.FwdOutIdeal.Tie.final_h m c), (h c).2.2.1.trans (Cert.FwdOutIdeal.Tie.final_ht m c), (h c).2.2.2⟩) (Cert.FwdOutIdeal.Value.run_blocks m g), ?_⟩
  refine (θ_run Cert.FwdOutReferenceIdeal.defs _ _).mono (fun r h c => ⟨(h c).1.trans ?_, (h c).2.1.trans ?_, (h c).2.2.1.trans ?_, (h c).2.2.2⟩) (Cert.FwdOutReferenceIdeal.Value.run (F := Ideal) m' g')
  · obtain ⟨h0, h1, h2, h3⟩ := hagree c
    rw [Cert.FwdOutReferenceIdeal.Read.val_main_v1_eq, h0, h1, h2]
  · obtain ⟨h0, h1, h2, h3⟩ := hagree c
    rw [Cert.FwdOutReferenceIdeal.Read.val_main_v15_eq, h0, h1, h2, h3]
  · obtain ⟨h0, h1, h2, h3⟩ := hagree c
    rw [Cert.FwdOutReferenceIdeal.Read.val_main_v16_eq, h0, h1, h2, h3]

/-! ## The call whose result is the gradient of the second norm's gain -/

theorem gateBwd_frame : Cert.quiescent_GateBwd := fun m ρ _ => Cert.GateBwd.Gen.frame m ρ

theorem gateBwd_frame_ideal : Cert.quiescent_GateBwdIdeal := fun m ρ _ => Cert.GateBwdIdeal.Gen.frame m ρ

theorem gateBwd_frame_reference : Cert.quiescent_GateBwdReferenceIdeal := fun m ρ _ =>
  (θ_run Cert.GateBwdReferenceIdeal.defs _ _).mono (fun r h => ⟨fun c => (h c).2,
      Idealize.ShloMosaic.sem_eq_zero_of_no_sems (by decide) r.2⟩)
    (Cert.GateBwdReferenceIdeal.Value.run (F := Ideal) m ρ)

theorem gateBwd_algebraic : Cert.algebraic_GateBwdIdeal_GateBwdReferenceIdeal := by
  intro m g m' g' hpre hagree
  refine ⟨fun c => Cert.GateBwdReferenceIdeal.Read.val_main_v21 (F := Ideal) (m ((c.tc : Thread _ _).loc Cert.GateBwdIdeal.main_arg0)) (m ((c.tc : Thread _ _).loc Cert.GateBwdIdeal.main_arg2)) (m ((c.tc : Thread _ _).loc Cert.GateBwdIdeal.main_arg3)),
    (θ_run Cert.GateBwdIdeal.defs _ _).mono (fun r h c => ⟨(h c).2.2.1.trans (Cert.GateBwdIdeal.Tie.final m c), (h c).2.2.2⟩) (Cert.GateBwdIdeal.Value.run_blocks m g), ?_⟩
  refine (θ_run Cert.GateBwdReferenceIdeal.defs _ _).mono (fun r h c => ⟨(h c).1.trans ?_, (h c).2⟩) (Cert.GateBwdReferenceIdeal.Value.run (F := Ideal) m' g')
  obtain ⟨h0, _, h2, h3, _⟩ := hagree c
  rw [Cert.GateBwdReferenceIdeal.Read.val_main_v21_eq, h0, h2, h3]

/-! ## The call whose result is the gradients of the loss with respect to the layer's input, the gate's product, its bias and the last gain -/

theorem ple_frame : Cert.quiescent_Ple := fun m ρ _ => Cert.Ple.Gen.frame m ρ

theorem ple_frame_ideal : Cert.quiescent_PleIdeal := fun m ρ _ => Cert.PleIdeal.Gen.frame m ρ

theorem ple_frame_reference : Cert.quiescent_PleReferenceIdeal := fun m ρ _ =>
  (θ_run Cert.PleReferenceIdeal.defs _ _).mono (fun r h => ⟨fun c => (h c).2.2.2,
      Idealize.ShloMosaic.sem_eq_zero_of_no_sems (by decide) r.2⟩)
    (Cert.PleReferenceIdeal.Value.run (F := Ideal) m ρ)

theorem ple_algebraic : Cert.algebraic_PleIdeal_PleReferenceIdeal := by
  intro m g m' g' hpre hagree
  refine ⟨fun c => Cert.PleReferenceIdeal.Read.val_main_v43 (F := Ideal) (m ((c.tc : Thread _ _).loc Cert.PleIdeal.main_arg0)) (m ((c.tc : Thread _ _).loc Cert.PleIdeal.main_arg1)) (m ((c.tc : Thread _ _).loc Cert.PleIdeal.main_arg2)) (m ((c.tc : Thread _ _).loc Cert.PleIdeal.main_arg3)) (m ((c.tc : Thread _ _).loc Cert.PleIdeal.main_arg4)) (m ((c.tc : Thread _ _).loc Cert.PleIdeal.main_arg5)) (m ((c.tc : Thread _ _).loc Cert.PleIdeal.main_arg6)) (m ((c.tc : Thread _ _).loc Cert.PleIdeal.main_arg7)), fun c => Cert.PleReferenceIdeal.Read.val_main_v60 (F := Ideal) (m ((c.tc : Thread _ _).loc Cert.PleIdeal.main_arg0)) (m ((c.tc : Thread _ _).loc Cert.PleIdeal.main_arg1)) (m ((c.tc : Thread _ _).loc Cert.PleIdeal.main_arg2)) (m ((c.tc : Thread _ _).loc Cert.PleIdeal.main_arg3)) (m ((c.tc : Thread _ _).loc Cert.PleIdeal.main_arg4)) (m ((c.tc : Thread _ _).loc Cert.PleIdeal.main_arg5)) (m ((c.tc : Thread _ _).loc Cert.PleIdeal.main_arg6)) (m ((c.tc : Thread _ _).loc Cert.PleIdeal.main_arg7)), fun c => Cert.PleReferenceIdeal.Read.val_main_v64 (F := Ideal) (m ((c.tc : Thread _ _).loc Cert.PleIdeal.main_arg0)) (m ((c.tc : Thread _ _).loc Cert.PleIdeal.main_arg1)) (m ((c.tc : Thread _ _).loc Cert.PleIdeal.main_arg2)) (m ((c.tc : Thread _ _).loc Cert.PleIdeal.main_arg3)) (m ((c.tc : Thread _ _).loc Cert.PleIdeal.main_arg4)) (m ((c.tc : Thread _ _).loc Cert.PleIdeal.main_arg5)) (m ((c.tc : Thread _ _).loc Cert.PleIdeal.main_arg6)) (m ((c.tc : Thread _ _).loc Cert.PleIdeal.main_arg7)),
    (θ_run Cert.PleIdeal.defs _ _).mono (fun r h c => ⟨(h c).1.trans (Cert.PleIdeal.Tie.final_dy m c), (h c).2.1.trans (Cert.PleIdeal.Tie.final_dg m c), (h c).2.2.2.2.1.trans (Cert.PleIdeal.Tie.final_acc m c), (h c).2.2.2.2.2⟩) (Cert.PleIdeal.Value.run_blocks m g), ?_⟩
  refine (θ_run Cert.PleReferenceIdeal.defs _ _).mono (fun r h c => ⟨(h c).1.trans ?_, (h c).2.1.trans ?_, (h c).2.2.1.trans ?_, (h c).2.2.2⟩) (Cert.PleReferenceIdeal.Value.run (F := Ideal) m' g')
  · obtain ⟨h0, h1, h2, h3, h4, h5, h6, h7⟩ := hagree c
    rw [Cert.PleReferenceIdeal.Read.val_main_v43_eq, h0, h1, h2, h3, h4, h5, h6, h7]
  · obtain ⟨h0, h1, h2, h3, h4, h5, h6, h7⟩ := hagree c
    rw [Cert.PleReferenceIdeal.Read.val_main_v60_eq, h0, h1, h2, h3, h4, h5, h6, h7]
  · obtain ⟨h0, h1, h2, h3, h4, h5, h6, h7⟩ := hagree c
    rw [Cert.PleReferenceIdeal.Read.val_main_v64_eq, h0, h1, h2, h3, h4, h5, h6, h7]

theorem claim : Cert.Claim :=
  ⟨Cert.Kernel.Gen.facts, Cert.KernelIdeal.Gen.facts, Cert.ReferenceIdeal.Gen.facts, Cert.GradIn.Gen.facts, Cert.GradInIdeal.Gen.facts, Cert.GradInReferenceIdeal.Gen.facts, Cert.GradOut.Gen.facts, Cert.GradOutIdeal.Gen.facts, Cert.GradOutReferenceIdeal.Gen.facts, Cert.OutBwd.Gen.facts, Cert.OutBwdIdeal.Gen.facts, Cert.OutBwdReferenceIdeal.Gen.facts, Cert.GateGrad.Gen.facts, Cert.GateGradIdeal.Gen.facts, Cert.GateGradReferenceIdeal.Gen.facts, Cert.ProjGrad.Gen.facts, Cert.ProjGradIdeal.Gen.facts, Cert.ProjGradReferenceIdeal.Gen.facts, Cert.FwdOut.Gen.facts, Cert.FwdOutIdeal.Gen.facts, Cert.FwdOutReferenceIdeal.Gen.facts, Cert.GateBwd.Gen.facts, Cert.GateBwdIdeal.Gen.facts, Cert.GateBwdReferenceIdeal.Gen.facts, Cert.Ple.Gen.facts, Cert.PleIdeal.Gen.facts, Cert.PleReferenceIdeal.Gen.facts,
    frame_kernel, frame_ideal, frame_reference, gradIn_frame, gradIn_frame_ideal, gradIn_frame_reference, gradOut_frame, gradOut_frame_ideal, gradOut_frame_reference, outBwd_frame, outBwd_frame_ideal, outBwd_frame_reference, gateGrad_frame, gateGrad_frame_ideal, gateGrad_frame_reference, projGrad_frame, projGrad_frame_ideal, projGrad_frame_reference, fwdOut_frame, fwdOut_frame_ideal, fwdOut_frame_reference, gateBwd_frame, gateBwd_frame_ideal, gateBwd_frame_reference, ple_frame, ple_frame_ideal, ple_frame_reference,
    preserves, algebraic, trivial, gradIn_algebraic, trivial, gradOut_algebraic, trivial, outBwd_algebraic, trivial, gateGrad_algebraic, trivial, projGrad_algebraic, trivial, fwdOut_algebraic, trivial, gateBwd_algebraic, trivial, ple_algebraic⟩

end Cert.Proof

end
